-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_neighbours [hPre_distinct_neighbours : Cert.Pre_distinct_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_distinct_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_neighbours [hPre_distinct_neighbours : Cert.Pre_distinct_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_distinct_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_distinct_neighbours [hKernelIdeal : Cert.KernelIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_distinct_neighbours [hReferenceIdeal : Cert.ReferenceIdeal.Facts] [hPre_distinct_neighbours : Cert.Pre_distinct_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "root" .f32 0x40B504F3#32 ((Real.sqrt 32 : ℝ) : EReal)
  ∧ IdealRules.named_const.Statement Cert.KernelIdeal.κ "mask" .f32 0xF149F2CA#32 ⊥
  ∧ IdealRules.named_const.Statement Cert.KernelIdeal.κ "scale" .f32 0x3E3504F3#32 (((Real.sqrt 32)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_distinct_neighbours [hKernelIdeal : Cert.KernelIdeal.Facts] [hReferenceIdeal : Cert.ReferenceIdeal.Facts] [hPre_distinct_neighbours : Cert.Pre_distinct_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_distinct_neighbours : Cert.Pre_distinct_neighbours.Facts),
    quiescent_Kernel (hKernel := hKernel)
    ∧ quiescent_KernelIdeal (hKernelIdeal := hKernelIdeal)
    ∧ quiescent_KernelIdeal_pre_distinct_neighbours (hKernelIdeal := hKernelIdeal) (hPre_distinct_neighbours := hPre_distinct_neighbours)
    ∧ quiescent_ReferenceIdeal (hReferenceIdeal := hReferenceIdeal)
    ∧ quiescent_ReferenceIdeal_pre_distinct_neighbours (hReferenceIdeal := hReferenceIdeal) (hPre_distinct_neighbours := hPre_distinct_neighbours)
    ∧ preserves_Kernel_KernelIdeal
    ∧ algebraic_KernelIdeal_ReferenceIdeal_pre_distinct_neighbours (hKernelIdeal := hKernelIdeal) (hReferenceIdeal := hReferenceIdeal) (hPre_distinct_neighbours := hPre_distinct_neighbours)
-- ==== Pre_distinct_neighbours.lean ====
abbrev S4x4096x256 : Shape := ⟨3, ![4, 4096, 256]⟩
abbrev S4x4096x3 : Shape := ⟨3, ![4, 4096, 3]⟩
abbrev S4x4096x1 : Shape := ⟨3, ![4, 4096, 1]⟩
abbrev S256x256 : Shape := ⟨2, ![256, 256]⟩
abbrev S9x8 : Shape := ⟨2, ![9, 8]⟩
abbrev S8 : Shape := ⟨1, ![8]⟩
abbrev S4x4096x9 : Shape := ⟨3, ![4, 4096, 9]⟩
abbrev S4x4096x1x9 : Shape := ⟨4, ![4, 4096, 1, 9]⟩
abbrev S4x1x4096x9 : Shape := ⟨4, ![4, 1, 4096, 9]⟩
abbrev S4x4096x4096x9 : Shape := ⟨4, ![4, 4096, 4096, 9]⟩
abbrev S_ : Shape := ⟨0, ![]⟩
abbrev S4x4096x4096 : Shape := ⟨3, ![4, 4096, 4096]⟩
abbrev S4x4096x17 : Shape := ⟨3, ![4, 4096, 17]⟩
abbrev S4x4096x16 : Shape := ⟨3, ![4, 4096, 16]⟩

class Facts : Prop where
  concatenates_S4x4096x3_S4x4096x3_S4x4096x1_S4x4096x1_S4x4096x1_S4x4096x9_d2 : Shape.Concatenates [S4x4096x3, S4x4096x3, S4x4096x1, S4x4096x1, S4x4096x1] S4x4096x9 2
  bcast_S4x4096x9_S4x4096x1x9_0_1_3 : S4x4096x9.BroadcastsInDim S4x4096x1x9 (![0, 1, 3] : Fin 3 → Fin S4x4096x1x9.rank)
  bcast_S4x4096x9_S4x1x4096x9_0_2_3 : S4x4096x9.BroadcastsInDim S4x1x4096x9 (![0, 2, 3] : Fin 3 → Fin S4x1x4096x9.rank)
  bcast_S4x4096x1x9_S4x4096x4096x9_0_1_2_3 : S4x4096x1x9.BroadcastsInDim S4x4096x4096x9 (![0, 1, 2, 3] : Fin 4 → Fin S4x4096x4096x9.rank)
  bcast_S4x1x4096x9_S4x4096x4096x9_0_1_2_3 : S4x1x4096x9.BroadcastsInDim S4x4096x4096x9 (![0, 1, 2, 3] : Fin 4 → Fin S4x4096x4096x9.rank)
  reducesTo_S4x4096x4096x9_S4x4096x4096_d3 : S4x4096x4096x9.ReducesTo [3] S4x4096x4096
  h_S_ : 0 < S_.numel
  sliceFits_S4x4096x4096_S4x4096x17 : S4x4096x4096.Slices (fun _ => 0) S4x4096x17
  bcast_S_S4x4096x256 : S_.BroadcastsInDim S4x4096x256 (![] : Fin 0 → Fin S4x4096x256.rank)
  bcast_S_S256x256 : S_.BroadcastsInDim S256x256 (![] : Fin 0 → Fin S256x256.rank)
  bcast_S_S9x8 : S_.BroadcastsInDim S9x8 (![] : Fin 0 → Fin S9x8.rank)
  bcast_S_S8 : S_.BroadcastsInDim S8 (![] : Fin 0 → Fin S8.rank)
  slices_S4x4096x17_S4x4096x16_0_0_0 : S4x4096x17.Slices ![0, 0, 0] S4x4096x16
  slices_S4x4096x17_S4x4096x16_0_0_1 : S4x4096x17.Slices ![0, 0, 1] S4x4096x16

variable [Facts]

def fn_part1 {F : FTy → Type} [FloatOps F] (main_arg10 : FVec F S9x8 .f32) (main_arg11 : FVec F S8 .f32) (main_values : FVec F S4x4096x17 .f32) (main_v11 : IVec S4x4096x256 1) (main_v14 : IVec S256x256 1) (main_v17 : IVec S256x256 1) : IVec S4x4096x256 1 × IVec S256x256 1 × IVec S256x256 1 × IVec S9x8 1 × IVec S8 1 × IVec S4x4096x16 1 :=
  let main_v18 : FVec F S9x8 .f32 := Host.absf main_arg10
  let main_cst_3 : FVec F S_ .f32 := constant S_ .f32 0x7F800000#32
  let main_v19 : FVec F S9x8 .f32 := broadcastInDim S9x8 ![] bcast_S_S9x8 main_cst_3
  let main_v20 : IVec S9x8 1 := cmpf .olt main_v18 main_v19
  let main_v21 : FVec F S8 .f32 := Host.absf main_arg11
  let main_cst_4 : FVec F S_ .f32 := constant S_ .f32 0x7F800000#32
  let main_v22 : FVec F S8 .f32 := broadcastInDim S8 ![] bcast_S_S8 main_cst_4
  let main_v23 : IVec S8 1 := cmpf .olt main_v21 main_v22
  let main_v24 : FVec F S4x4096x16 .f32 := (extractStridedSlice S4x4096x16 ![0, 0, 0] · slices_S4x4096x17_S4x4096x16_0_0_0) main_values
  let main_v25 : FVec F S4x4096x16 .f32 := (extractStridedSlice S4x4096x16 ![0, 0, 1] · slices_S4x4096x17_S4x4096x16_0_0_1) main_values
  let main_v26 : IVec S4x4096x16 1 := cmpf .ogt main_v24 main_v25
  (main_v11, main_v14, main_v17, main_v20, main_v23, main_v26)

def fn {F : FTy → Type} [FloatOps F] (main_arg0 : FVec F S4x4096x256 .f32) (main_arg1 : FVec F S4x4096x3 .f32) (main_arg2 : FVec F S4x4096x1 .f32) (main_arg3 : FVec F S4x4096x1 .f32) (main_arg4 : FVec F S4x4096x3 .f32) (main_arg5 : FVec F S4x4096x1 .f32) (main_arg6 : FVec F S256x256 .f32) (main_arg7 : FVec F S256x256 .f32) (main_arg8 : FVec F S256x256 .f32) (main_arg9 : FVec F S256x256 .f32) (main_arg10 : FVec F S9x8 .f32) (main_arg11 : FVec F S8 .f32) : IVec S4x4096x256 1 × IVec S256x256 1 × IVec S256x256 1 × IVec S9x8 1 × IVec S8 1 × IVec S4x4096x16 1 :=
  let main_v0 : FVec F S4x4096x9 .f32 := concatenate S4x4096x9 2 [⟨S4x4096x3, main_arg1⟩, ⟨S4x4096x3, main_arg4⟩, ⟨S4x4096x1, main_arg2⟩, ⟨S4x4096x1, main_arg3⟩, ⟨S4x4096x1, main_arg5⟩] concatenates_S4x4096x3_S4x4096x3_S4x4096x1_S4x4096x1_S4x4096x1_S4x4096x9_d2
  let main_v1 : FVec F S4x4096x1x9 .f32 := broadcastInDim S4x4096x1x9 ![0, 1, 3] bcast_S4x4096x9_S4x4096x1x9_0_1_3 main_v0
  let main_v2 : FVec F S4x1x4096x9 .f32 := broadcastInDim S4x1x4096x9 ![0, 2, 3] bcast_S4x4096x9_S4x1x4096x9_0_2_3 main_v0
  let main_v3 : FVec F S4x4096x4096x9 .f32 := broadcastInDim S4x4096x4096x9 ![0, 1, 2, 3] bcast_S4x4096x1x9_S4x4096x4096x9_0_1_2_3 main_v1
  let main_v4 : FVec F S4x4096x4096x9 .f32 := broadcastInDim S4x4096x4096x9 ![0, 1, 2, 3] bcast_S4x1x4096x9_S4x4096x4096x9_0_1_2_3 main_v2
  let main_v5 : FVec F S4x4096x4096x9 .f32 := subf main_v3 main_v4
  let main_v6 : FVec F S4x4096x4096x9 .f32 := mulf main_v5 main_v5
  let main_cst : FVec F S_ .f32 := constant S_ .f32 0x00000000#32
  let main_v7 : FVec F S4x4096x4096 .f32 := (fun x v => Host.reduceAdd x v reducesTo_S4x4096x4096x9_S4x4096x4096_d3 h_S_) main_v6 main_cst
  let main_v8 : FVec F S4x4096x4096 .f32 := Host.negf main_v7
  let main_values : FVec F S4x4096x17 .f32 := (fun x => (Host.topK S4x4096x17 2 (FloatOps.cmpfTotal .gt) x sliceFits_S4x4096x4096_S4x4096x17).1) main_v8
  let main_indices : IVec S4x4096x17 32 := (fun x => (Host.topK S4x4096x17 2 (FloatOps.cmpfTotal .gt) x sliceFits_S4x4096x4096_S4x4096x17).2) main_v8
  let main_v9 : FVec F S4x4096x256 .f32 := Host.absf main_arg0
  let main_cst_0 : FVec F S_ .f32 := constant S_ .f32 0x7F800000#32
  let main_v10 : FVec F S4x4096x256 .f32 := broadcastInDim S4x4096x256 ![] bcast_S_S4x4096x256 main_cst_0
  let main_v11 : IVec S4x4096x256 1 := cmpf .olt main_v9 main_v10
  let main_v12 : FVec F S256x256 .f32 := Host.absf main_arg6
  let main_cst_1 : FVec F S_ .f32 := constant S_ .f32 0x7F800000#32
  let main_v13 : FVec F S256x256 .f32 := broadcastInDim S256x256 ![] bcast_S_S256x256 main_cst_1
  let main_v14 : IVec S256x256 1 := cmpf .olt main_v12 main_v13
  let main_v15 : FVec F S256x256 .f32 := Host.absf main_arg7
  let main_cst_2 : FVec F S_ .f32 := constant S_ .f32 0x7F800000#32
  let main_v16 : FVec F S256x256 .f32 := broadcastInDim S256x256 ![] bcast_S_S256x256 main_cst_2
  let main_v17 : IVec S256x256 1 := cmpf .olt main_v15 main_v16
  fn_part1 (F := F) main_arg10 main_arg11 main_values main_v11 main_v14 main_v17
-- ==== Kernel.lean ====
abbrev S4x4096x256 : Shape := ⟨3, ![4, 4096, 256]⟩
abbrev S4x4096x3 : Shape := ⟨3, ![4, 4096, 3]⟩
abbrev S4x4096x1 : Shape := ⟨3, ![4, 4096, 1]⟩
abbrev S256x256 : Shape := ⟨2, ![256, 256]⟩
abbrev S9x8 : Shape := ⟨2, ![9, 8]⟩
abbrev S8 : Shape := ⟨1, ![8]⟩
abbrev S_ : Shape := ⟨0, ![]⟩
abbrev S16x8 : Shape := ⟨2, ![16, 8]⟩
abbrev S1 : Shape := ⟨1, ![1]⟩
abbrev S1x8 : Shape := ⟨2, ![1, 8]⟩
abbrev S4x4096x16 : Shape := ⟨3, ![4, 4096, 16]⟩
abbrev S4x4096x8 : Shape := ⟨3, ![4, 4096, 8]⟩
abbrev S1x512x256 : Shape := ⟨3, ![1, 512, 256]⟩
abbrev S1x512x3 : Shape := ⟨3, ![1, 512, 3]⟩
abbrev S1x512x1 : Shape := ⟨3, ![1, 512, 1]⟩
abbrev S1x512x16 : Shape := ⟨3, ![1, 512, 16]⟩
abbrev S1x512x8 : Shape := ⟨3, ![1, 512, 8]⟩
abbrev S512x256 : Shape := ⟨2, ![512, 256]⟩
abbrev S512x3 : Shape := ⟨2, ![512, 3]⟩
abbrev S512x1 : Shape := ⟨2, ![512, 1]⟩
abbrev S512x9 : Shape := ⟨2, ![512, 9]⟩
abbrev S512 : Shape := ⟨1, ![512]⟩
abbrev S512x7 : Shape := ⟨2, ![512, 7]⟩
abbrev S512x6 : Shape := ⟨2, ![512, 6]⟩
abbrev S512x16 : Shape := ⟨2, ![512, 16]⟩
abbrev S512x8 : Shape := ⟨2, ![512, 8]⟩
abbrev S1x4096x256 : Shape := ⟨3, ![1, 4096, 256]⟩
abbrev S1x4096x16 : Shape := ⟨3, ![1, 4096, 16]⟩
abbrev S1x4096x8 : Shape := ⟨3, ![1, 4096, 8]⟩
abbrev S512x4096 : Shape := ⟨2, ![512, 4096]⟩
abbrev S4096x16 : Shape := ⟨2, ![4096, 16]⟩
abbrev S1x16 : Shape := ⟨2, ![1, 16]⟩
abbrev S1x4096 : Shape := ⟨2, ![1, 4096]⟩
abbrev S8x4096 : Shape := ⟨2, ![8, 4096]⟩
abbrev S8x1 : Shape := ⟨2, ![8, 1]⟩
abbrev S4096x256 : Shape := ⟨2, ![4096, 256]⟩
abbrev S4096x8 : Shape := ⟨2, ![4096, 8]⟩
abbrev S4096x1 : Shape := ⟨2, ![4096, 1]⟩
abbrev S512x32 : Shape := ⟨2, ![512, 32]⟩
abbrev S512x33 : Shape := ⟨2, ![512, 33]⟩
abbrev S4096x32 : Shape := ⟨2, ![4096, 32]⟩
abbrev S4096x33 : Shape := ⟨2, ![4096, 33]⟩

abbrev nBuf : Space → Nat
  | .hbm => 25
  | .vmem => 46
  | .smem => 0
  | _ => 0

abbrev bufTy : (tb : Table) → Fin (tcTables nBuf tb) → BufTy
  | .hbm, ⟨0, _⟩ => ⟨S4x4096x256, .f32⟩
  | .hbm, ⟨1, _⟩ => ⟨S4x4096x3, .f32⟩
  | .hbm, ⟨2, _⟩ => ⟨S4x4096x1, .f32⟩
  | .hbm, ⟨3, _⟩ => ⟨S4x4096x1, .f32⟩
  | .hbm, ⟨4, _⟩ => ⟨S4x4096x3, .f32⟩
  | .hbm, ⟨5, _⟩ => ⟨S4x4096x1, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S9x8, .f32⟩
  | .hbm, ⟨11, _⟩ => ⟨S8, .f32⟩
  | .hbm, ⟨12, _⟩ => ⟨S_, .f32⟩
  | .hbm, ⟨13, _⟩ => ⟨S16x8, .f32⟩
  | .hbm, ⟨14, _⟩ => ⟨S_, .i32⟩
  | .hbm, ⟨15, _⟩ => ⟨S1, .i32⟩
  | .hbm, ⟨16, _⟩ => ⟨S16x8, .f32⟩
  | .hbm, ⟨17, _⟩ => ⟨S1x8, .f32⟩
  | .hbm, ⟨18, _⟩ => ⟨S4x4096x256, .bf16⟩
  | .hbm, ⟨19, _⟩ => ⟨S4x4096x256, .bf16⟩
  | .hbm, ⟨20, _⟩ => ⟨S4x4096x256, .bf16⟩
  | .hbm, ⟨21, _⟩ => ⟨S4x4096x16, .f32⟩
  | .hbm, ⟨22, _⟩ => ⟨S4x4096x16, .f32⟩
  | .hbm, ⟨23, _⟩ => ⟨S4x4096x8, .bf16⟩
  | .hbm, ⟨24, _⟩ => ⟨S4x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x3, .f32⟩
  | .local _ .vmem, ⟨3, _⟩ => ⟨S1x512x3, .f32⟩
  | .local _ .vmem, ⟨4, _⟩ => ⟨S1x512x3, .f32⟩
  | .local _ .vmem, ⟨5, _⟩ => ⟨S1x512x3, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S16x8, .f32⟩
  | .local _ .vmem, ⟨16, _⟩ => ⟨S1x8, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x16, .f32⟩
  | .local _ .vmem, ⟨24, _⟩ => ⟨S1x512x16, .f32⟩
  | .local _ .vmem, ⟨25, _⟩ => ⟨S1x512x16, .f32⟩
  | .local _ .vmem, ⟨26, _⟩ => ⟨S1x512x16, .f32⟩
  | .local _ .vmem, ⟨27, _⟩ => ⟨S1x512x8, .bf16⟩
  | .local _ .vmem, ⟨28, _⟩ => ⟨S1x512x8, .bf16⟩
  | .local _ .vmem, ⟨29, _⟩ => ⟨S1x512x256, .bf16⟩
  | .local _ .vmem, ⟨30, _⟩ => ⟨S1x512x256, .bf16⟩
  | .local _ .vmem, ⟨31, _⟩ => ⟨S1x4096x256, .bf16⟩
  | .local _ .vmem, ⟨32, _⟩ => ⟨S1x4096x256, .bf16⟩
  | .local _ .vmem, ⟨33, _⟩ => ⟨S1x4096x256, .bf16⟩
  | .local _ .vmem, ⟨34, _⟩ => ⟨S1x4096x256, .bf16⟩
  | .local _ .vmem, ⟨35, _⟩ => ⟨S1x512x16, .f32⟩
  | .local _ .vmem, ⟨36, _⟩ => ⟨S1x512x16, .f32⟩
  | .local _ .vmem, ⟨37, _⟩ => ⟨S1x4096x16, .f32⟩
  | .local _ .vmem, ⟨38, _⟩ => ⟨S1x4096x16, .f32⟩
  | .local _ .vmem, ⟨39, _⟩ => ⟨S1x4096x8, .bf16⟩
  | .local _ .vmem, ⟨40, _⟩ => ⟨S1x4096x8, .bf16⟩
  | .local _ .vmem, ⟨41, _⟩ => ⟨S256x256, .f32⟩
  | .local _ .vmem, ⟨42, _⟩ => ⟨S1x512x256, .f32⟩
  | .local _ .vmem, ⟨43, _⟩ => ⟨S1x512x256, .f32⟩
  | .local _ .vmem, ⟨44, _⟩ => ⟨S512x4096, .f32⟩
  | .local _ .vmem, ⟨45, _⟩ => ⟨S512x4096, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4_0 : Ref sig .tc := ⟨.hbm, 18, rfl⟩
abbrev main_call0_v4_1 : Ref sig .tc := ⟨.hbm, 19, rfl⟩
abbrev main_call0_v4_2 : Ref sig .tc := ⟨.hbm, 20, rfl⟩
abbrev main_call0_v4_3 : Ref sig .tc := ⟨.hbm, 21, rfl⟩
abbrev main_call0_v4_4 : Ref sig .tc := ⟨.hbm, 22, rfl⟩
abbrev main_call0_v4_5 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg7_1 : Ref sig .tc := ⟨.vmem, 43, rfl⟩
abbrev cc1_scratch0 : Ref sig .tc := ⟨.vmem, 44, rfl⟩
abbrev cc1_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc1_sem0_0 : DmaSem sig := 29
abbrev cc1_sem0_1 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36
abbrev cc1_sem4_0 : DmaSem sig := 37
abbrev cc1_sem4_1 : DmaSem sig := 38
abbrev cc1_sem5_0 : DmaSem sig := 39
abbrev cc1_sem5_1 : DmaSem sig := 40
abbrev cc1_sem6_0 : DmaSem sig := 41
abbrev cc1_sem7_0 : DmaSem sig := 42
abbrev cc1_sem7_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x8 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨2, ![4, 8], ![false, false]⟩

@[reducible] def k1_t1_loop : Scf.Loop 32 :=
  let c0_i32 : BitVec 32 := 0#32
  let c64_i32 : BitVec 32 := 64#32
  let v18 : BitVec 32 := Scalar.addi c0_i32 c64_i32
  let c1_i32 : BitVec 32 := 1#32
  ⟨c0_i32, v18, c1_i32⟩
def k1_off1 (k1_t1 : Fin k1_t1_loop.trips) : Fin 2 → Nat :=
  let c0_i32 : BitVec 32 := 0#32
  let c1_i32 : BitVec 32 := 1#32
  let arg12 : BitVec 32 := Scf.iv c0_i32 c1_i32 k1_t1
  let c8_i32 : BitVec 32 := 8#32
  let v188 : BitVec 32 := Scalar.muli arg12 c8_i32
  let v189 : Index := Scalar.indexCast v188
  let c0_67 : Index := 0#32
  ![v189.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4096x8 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "root" => some ((Real.sqrt 32 : ℝ) : EReal)
  | "scale" => some (((Real.sqrt 32)⁻¹ : ℝ) : EReal)
  | _ => none
-- ==== ReferenceIdeal.lean ====
abbrev S4x4096x256 : Shape := ⟨3, ![4, 4096, 256]⟩
abbrev S4x4096x3 : Shape := ⟨3, ![4, 4096, 3]⟩
abbrev S4x4096x1 : Shape := ⟨3, ![4, 4096, 1]⟩
abbrev S256x256 : Shape := ⟨2, ![256, 256]⟩
abbrev S9x8 : Shape := ⟨2, ![9, 8]⟩
abbrev S8 : Shape := ⟨1, ![8]⟩
abbrev S4x4096x9 : Shape := ⟨3, ![4, 4096, 9]⟩
abbrev S_ : Shape := ⟨0, ![]⟩
abbrev S4x4096 : Shape := ⟨2, ![4, 4096]⟩
abbrev S4x1x4096 : Shape := ⟨3, ![4, 1, 4096]⟩
abbrev S4x4096x4096 : Shape := ⟨3, ![4, 4096, 4096]⟩
abbrev S4x4096x16 : Shape := ⟨3, ![4, 4096, 16]⟩
abbrev S4x4096x16x1 : Shape := ⟨4, ![4, 4096, 16, 1]⟩
abbrev S4x4096x16x256 : Shape := ⟨4, ![4, 4096, 16, 256]⟩
abbrev S4x4096x8 : Shape := ⟨3, ![4, 4096, 8]⟩
abbrev S1x1x8 : Shape := ⟨3, ![1, 1, 8]⟩
abbrev S4x4096x16x8 : Shape := ⟨4, ![4, 4096, 16, 8]⟩
abbrev S4x8x4096x16 : Shape := ⟨4, ![4, 8, 4096, 16]⟩
abbrev S4x4096x8x32 : Shape := ⟨4, ![4, 4096, 8, 32]⟩
abbrev S4x4096x16x8x32 : Shape := ⟨5, ![4, 4096, 16, 8, 32]⟩
abbrev S4x8x4096 : Shape := ⟨3, ![4, 8, 4096]⟩
abbrev S4x8x4096x1 : Shape := ⟨4, ![4, 8, 4096, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x3, .f32⟩
  | .hbm, ⟨2, _⟩ => ⟨S4x4096x1, .f32⟩
  | .hbm, ⟨3, _⟩ => ⟨S4x4096x1, .f32⟩
  | .hbm, ⟨4, _⟩ => ⟨S4x4096x3, .f32⟩
  | .hbm, ⟨5, _⟩ => ⟨S4x4096x1, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S9x8, .f32⟩
  | .hbm, ⟨11, _⟩ => ⟨S8, .f32⟩
  | .hbm, ⟨12, _⟩ => ⟨S4x4096x9, .f32⟩
  | .hbm, ⟨13, _⟩ => ⟨S4x4096x9, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x16, .f32⟩
  | .hbm, ⟨28, _⟩ => ⟨S4x4096x16, .i32⟩
  | .hbm, ⟨29, _⟩ => ⟨S4x4096x256, .f32⟩
  | .hbm, ⟨30, _⟩ => ⟨S4x4096x256, .f32⟩
  | .hbm, ⟨31, _⟩ => ⟨S4x4096x256, .f32⟩
  | .hbm, ⟨32, _⟩ => ⟨S_, .i32⟩
  | .hbm, ⟨33, _⟩ => ⟨S4x4096x16, .i32⟩
  | .hbm, ⟨34, _⟩ => ⟨S4x4096x16, .i1⟩
  | .hbm, ⟨35, _⟩ => ⟨S_, .i32⟩
  | .hbm, ⟨36, _⟩ => ⟨S4x4096x16, .i32⟩
  | .hbm, ⟨37, _⟩ => ⟨S4x4096x16, .i32⟩
  | .hbm, ⟨38, _⟩ => ⟨S4x4096x16, .i32⟩
  | .hbm, ⟨39, _⟩ => ⟨S4x4096x16x1, .i32⟩
  | .hbm, ⟨40, _⟩ => ⟨S4x4096x16x256, .f32⟩
  | .hbm, ⟨41, _⟩ => ⟨S_, .i32⟩
  | .hbm, ⟨42, _⟩ => ⟨S4x4096x16, .i32⟩
  | .hbm, ⟨43, _⟩ => ⟨S4x4096x16, .i1⟩
  | .hbm, ⟨44, _⟩ => ⟨S_, .i32⟩
  | .hbm, ⟨45, _⟩ => ⟨S4x4096x16, .i32⟩
  | .hbm, ⟨46, _⟩ => ⟨S4x4096x16, .i32⟩
  | .hbm, ⟨47, _⟩ => ⟨S4x4096x16, .i32⟩
  | .hbm, ⟨48, _⟩ => ⟨S4x4096x16x1, .i32⟩
  | .hbm, ⟨49, _⟩ => ⟨S4x4096x16x256, .f32⟩
  | .hbm, ⟨50, _⟩ => ⟨S4x4096x8, .f32⟩
  | .hbm, ⟨51, _⟩ => ⟨S1x1x8, .f32⟩
  | .hbm, ⟨52, _⟩ => ⟨S4x4096x8, .f32⟩
  | .hbm, ⟨53, _⟩ => ⟨S4x4096x8, .f32⟩
  | .hbm, ⟨54, _⟩ => ⟨S_, .i32⟩
  | .hbm, ⟨55, _⟩ => ⟨S4x4096x16, .i32⟩
  | .hbm, ⟨56, _⟩ => ⟨S4x4096x16, .i1⟩
  | .hbm, ⟨57, _⟩ => ⟨S_, .i32⟩
  | .hbm, ⟨58, _⟩ => ⟨S4x4096x16, .i32⟩
  | .hbm, ⟨59, _⟩ => ⟨S4x4096x16, .i32⟩
  | .hbm, ⟨60, _⟩ => ⟨S4x4096x16, .i32⟩
  | .hbm, ⟨61, _⟩ => ⟨S4x4096x16x1, .i32⟩
  | .hbm, ⟨62, _⟩ => ⟨S4x4096x16x8, .f32⟩
  | .hbm, ⟨63, _⟩ => ⟨S4x8x4096x16, .f32⟩
  | .hbm, ⟨64, _⟩ => ⟨S4x4096x8x32, .f32⟩
  | .hbm, ⟨65, _⟩ => ⟨S4x4096x16x8x32, .f32⟩
  | .hbm, ⟨66, _⟩ => ⟨S4x4096x16x8x32, .f32⟩
  | .hbm, ⟨67, _⟩ => ⟨S4x8x4096x16, .f32⟩
  | .hbm, ⟨68, _⟩ => ⟨S_, .f32⟩
  | .hbm, ⟨69, _⟩ => ⟨S_, .f32⟩
  | .hbm, ⟨70, _⟩ => ⟨S4x8x4096x16, .f32⟩
  | .hbm, ⟨71, _⟩ => ⟨S4x8x4096x16, .f32⟩
  | .hbm, ⟨72, _⟩ => ⟨S4x8x4096x16, .f32⟩
  | .hbm, ⟨73, _⟩ => ⟨S_, .f32⟩
  | .hbm, ⟨74, _⟩ => ⟨S4x8x4096, .f32⟩
  | .hbm, ⟨75, _⟩ => ⟨S_, .f32⟩
  | .hbm, ⟨76, _⟩ => ⟨S4x8x4096, .f32⟩
  | .hbm, ⟨77, _⟩ => ⟨S4x8x4096, .f32⟩
  | .hbm, ⟨78, _⟩ => ⟨S4x8x4096x1, .f32⟩
  | .hbm, ⟨79, _⟩ => ⟨S4x8x4096x16, .f32⟩
  | .hbm, ⟨80, _⟩ => ⟨S4x8x4096x16, .f32⟩
  | .hbm, ⟨81, _⟩ => ⟨S4x8x4096x16, .f32⟩
  | .hbm, ⟨82, _⟩ => ⟨S_, .f32⟩
  | .hbm, ⟨83, _⟩ => ⟨S4x8x4096, .f32⟩
  | .hbm, ⟨84, _⟩ => ⟨S4x8x4096x1, .f32⟩
  | .hbm, ⟨85, _⟩ => ⟨S4x8x4096x16, .f32⟩
  | .hbm, ⟨86, _⟩ => ⟨S4x8x4096x16, .f32⟩
  | .hbm, ⟨87, _⟩ => ⟨S4x4096x8x32, .f32⟩
  | .hbm, ⟨88, _⟩ => ⟨S4x4096x256, .f32⟩
  | .hbm, ⟨89, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_values : Ref sig .tc := ⟨.hbm, 27, rfl⟩
abbrev main_indices : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Proof.Frames.lean ====
/-
  The claims that say nothing of values: each program terminates without a fault, leaves its arguments unchanged and
  every semaphore at zero; and the kernel's idealization names its four folded constants and changes nothing else.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_distinct_neighbours

@[expose] public section

noncomputable section

namespace Cert.Proof

open Idealize.ShloMosaic Idealize.SL.Sem

/-- The kernel over floating-point numbers runs and leaves its arguments as they were. -/
theorem frame_kernel : Cert.quiescent_Kernel (hKernel := Cert.Kernel.Gen.facts) :=
  fun m ρ _ => Cert.Kernel.Gen.frame m ρ

/-- The kernel over the extended reals runs and leaves its arguments as they were. -/
theorem frame_kernelIdeal : Cert.quiescent_KernelIdeal (hKernelIdeal := Cert.KernelIdeal.Gen.facts) :=
  fun m ρ _ => Cert.KernelIdeal.Gen.frame m ρ

/-- The reference over the extended reals runs and leaves its arguments as they were; it declares no semaphore. -/
theorem frame_referenceIdeal : Cert.quiescent_ReferenceIdeal (hReferenceIdeal := Cert.ReferenceIdeal.Gen.facts) :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

/-- The kernel's frame at inputs that satisfy the precondition, which it does not need. -/
theorem frame_kernelIdeal_pre : Cert.quiescent_KernelIdeal_pre_distinct_neighbours (hKernelIdeal := Cert.KernelIdeal.Gen.facts)
    (hPre_distinct_neighbours := Cert.Pre_distinct_neighbours.Gen.facts) :=
  fun m ρ _ => Cert.KernelIdeal.Gen.frame m ρ

/-- The reference's frame at inputs that satisfy the precondition, which it does not need. -/
theorem frame_referenceIdeal_pre : Cert.quiescent_ReferenceIdeal_pre_distinct_neighbours
    (hReferenceIdeal := Cert.ReferenceIdeal.Gen.facts) (hPre_distinct_neighbours := Cert.Pre_distinct_neighbours.Gen.facts) :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

/-- Each of the kernel's named constants rounds to the literal it replaces. -/
theorem preserves_kernel : Cert.preserves_Kernel_KernelIdeal :=
  ⟨IdealRules.named_const.statement Cert.KernelIdeal.κ "root" .f32 0x40B504F3#32 ((Real.sqrt 32 : ℝ) : EReal) rfl,
   IdealRules.named_const.statement Cert.KernelIdeal.κ "mask" .f32 0xF149F2CA#32 ⊥ rfl,
   IdealRules.named_const.statement Cert.KernelIdeal.κ "scale" .f32 0x3E3504F3#32 (((Real.sqrt 32)⁻¹ : ℝ) : EReal) rfl,
   IdealRules.named_const.statement Cert.KernelIdeal.κ "log2e" .f32 0x3FB8AA3B#32 (((Real.log 2)⁻¹ : ℝ) : EReal) rfl⟩

end Cert.Proof

end
-- ==== Proof.KernelRun.lean ====
/-
  The kernel's run over the extended reals: it terminates, its arguments are as launched, and its result array is what
  the second region's write-backs leave.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- THE RUN: from any memory with zero counters every fair execution terminates with the result array holding what region
    1's write-backs leave of its output window, and every argument array as launched. -/
theorem run : θ_run (defs (F := Ideal)) (onTc (τ := τ) (main (F := Ideal))) ⟨m, fun _ => 0, ρ⟩ (fun r => ∀ c : Dev nD,
      r.2.mem ((c.tc : Thread nD τ).loc main_v0) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end Cert.KernelIdeal.Run

end
-- ==== Proof.Proj.lean ====
/-
  What the first region leaves in its six arrays, element by element: the projections q, k, v of the points, the two
  operands of the distance product, and the geometry bias, each as a function of the arrays the region reads.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen

/-- The points `X` projected by the matrix `W`. -/
def proj (X : FVec Ideal S4x4096x256 .f32) (W : FVec Ideal S256x256 .f32) : FVec Ideal S4x4096x256 .bf16 :=
  fun j => ∑ k : Fin 256, X (ix3 (j 0) (j 1) k) * W (ix2 k (j 2))

/-- The geometry vector of a point: direction, normal, curvature, density and linearity one after the other. -/
def geo (P N : FVec Ideal S4x4096x3 .f32) (C D L : FVec Ideal S4x4096x1 .f32) (b : Fin 4) (n : Fin 4096) (f : Fin 9) : EReal :=
  if h : (f : ℕ) < 3 then P (ix3 b n ⟨f, h⟩)
  else if h' : (f : ℕ) - 3 < 3 then N (ix3 b n ⟨f - 3, h'⟩)
  else if (f : ℕ) - 3 - 3 < 1 then C (ix3 b n 0)
  else if (f : ℕ) - 3 - 3 - 1 < 1 then D (ix3 b n 0)
  else L (ix3 b n 0)

/-- The left operand of the distance product: −2 times the geometry, then zeros. -/
def rowop (P N : FVec Ideal S4x4096x3 .f32) (C D L : FVec Ideal S4x4096x1 .f32) : FVec Ideal S4x4096x16 .f32 := fun j =>
  if h : (j 2 : ℕ) < 9 then Ideal.ofBits .f32 0xC0000000#32 * geo P N C D L (j 0) (j 1) ⟨j 2, h⟩ else 0

/-- The right operand of the distance product: the geometry, its squared norm, then zeros. -/
def colop (P N : FVec Ideal S4x4096x3 .f32) (C D L : FVec Ideal S4x4096x1 .f32) : FVec Ideal S4x4096x16 .f32 := fun j =>
  if h : (j 2 : ℕ) < 9 then geo P N C D L (j 0) (j 1) ⟨j 2, h⟩
  else if (j 2 : ℕ) - 9 < 1 then ∑ f : Fin 9, geo P N C D L (j 0) (j 1) f * geo P N C D L (j 0) (j 1) f else 0

/-- The geometry bias of a point per head, times √32. -/
def gbias (P N : FVec Ideal S4x4096x3 .f32) (C D L : FVec Ideal S4x4096x1 .f32) (G : FVec Ideal S16x8 .f32) (B : FVec Ideal S1x8 .f32) :
    FVec Ideal S4x4096x8 .bf16 := fun j =>
  ((∑ f : Fin 9, geo P N C D L (j 0) (j 1) f * G (ix2 (⟨f.val, by omega⟩ : Fin 16) (j 2))) + B (ix2 0 (j 2)))
    * ((Real.sqrt 32 : ℝ) : EReal)

variable (V : (c : Dev nD) → (b : Ref sig .tc) → Buf (Elt Ideal) ((c : Thread nD τ).loc b))

/-- Every window's block index at every grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![0, 0] ∧ win0_7.index t = ![0, 0] ∧ win0_8.index t = ![0, 0] ∧ win0_9.index t = ![0, 0]
    ∧ win0_10.index t = ![0, 0] ∧ win0_11.index t = ![t.val / 8, t.val % 8, 0] ∧ win0_12.index t = ![t.val / 8, t.val % 8, 0]
    ∧ win0_13.index t = ![t.val / 8, t.val % 8, 0] ∧ win0_14.index t = ![t.val / 8, t.val % 8, 0]
    ∧ win0_15.index t = ![t.val / 8, t.val % 8, 0] ∧ win0_16.index t = ![t.val / 8, t.val % 8, 0] :=
  (by decide +kernel : ∀ t : Fin grid0.N, _)

/-- The array q after the region. -/
theorem q_arr (c : Dev nD) : (dat0 V c).arrAt 11 cfg0.N = proj (V c main_arg0) (V c main_arg6) := by
  refine (dat0 V c).arrAt_eq_of_covers 11 _ (by decide +kernel) fun t _ y => ?_
  blk_simp
  rw [after0_11]; frame_out
  pointwise [k0_pay3, k0_pay2, proj]
  blk_point [iblk0, idx t]

/-- The array k after the region. -/
theorem k_arr (c : Dev nD) : (dat0 V c).arrAt 12 cfg0.N = proj (V c main_arg0) (V c main_arg7) := by
  refine (dat0 V c).arrAt_eq_of_covers 12 _ (by decide +kernel) fun t _ y => ?_
  blk_simp
  rw [after0_12]; frame_out
  pointwise [k0_pay4, k0_pay2, proj]
  blk_point [iblk0, idx t]

/-- The array v after the region. -/
theorem v_arr (c : Dev nD) : (dat0 V c).arrAt 13 cfg0.N = proj (V c main_arg0) (V c main_arg8) := by
  refine (dat0 V c).arrAt_eq_of_covers 13 _ (by decide +kernel) fun t _ y => ?_
  blk_simp
  rw [after0_13]; frame_out
  pointwise [k0_pay5, k0_pay2, proj]
  blk_point [iblk0, idx t]

end Cert.KernelIdeal.Proj

end
-- ==== Proof.Geom.lean ====
/-
  The geometry arrays the first region leaves: the two operands of the distance product and the bias of every point.
-/
module

public import proofs.«01_k».proof.Proof.Proj

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen

/-- The constant named "root" is the square root of 32. -/
theorem named_root : (Named.named κ "root" 0x40B504F3#32 : Ideal .f32) = ((Real.sqrt 32 : ℝ) : EReal) := rfl

section Block
variable (x1 x2 : FVec Ideal S1x512x3 .f32) (x3 x4 x5 : FVec Ideal S1x512x1 .f32)
  (P N : FVec Ideal S4x4096x3 .f32) (C D L : FVec Ideal S4x4096x1 .f32) (b : Fin 4) (n : Fin 4096) (r : Fin 512)
  (h1 : ∀ f : Fin 3, x1 (ix3 0 r f) = P (ix3 b n f)) (h2 : ∀ f : Fin 3, x2 (ix3 0 r f) = N (ix3 b n f))
  (h3 : x3 (ix3 0 r 0) = C (ix3 b n 0)) (h4 : x4 (ix3 0 r 0) = D (ix3 b n 0)) (h5 : x5 (ix3 0 r 0) = L (ix3 b n 0))
include h1 h2 h3 h4 h5

/-- Row `r` of a block's joined geometry is the geometry of the point that row is. -/
theorem pay8_at (f : Fin 9) : k0_pay8 (F := Ideal) (k0_pay6 x1) (k0_pay7 x2) x3 x4 x5 (ix2 r f) = geo P N C D L b n f := by
  pointwise [k0_pay8, k0_pay7, k0_pay6]
  unfold geo
  simp only [h1, h2, h3, h4, h5]
  rfl

/-- Row `r` of what the body stores as the left operand. -/
theorem pay10_at (k : Fin 16) : k0_pay10 (F := Ideal) (k0_pay6 x1) (k0_pay7 x2) x3 x4 x5 (ix3 0 r k) = rowop P N C D L (ix3 b n k) := by
  pointwise [k0_pay10, k0_pay9]
  unfold rowop
  simp only [pay8_at x1 x2 x3 x4 x5 P N C D L b n r h1 h2 h3 h4 h5]
  rfl

/-- Row `r` of what the body stores as the right operand. -/
theorem pay11_at (k : Fin 16) : k0_pay11 (F := Ideal) (k0_pay6 x1) (k0_pay7 x2) x3 x4 x5 (ix3 0 r k) = colop P N C D L (ix3 b n k) := by
  pointwise [k0_pay11]
  unfold colop
  simp only [pay8_at x1 x2 x3 x4 x5 P N C D L b n r h1 h2 h3 h4 h5]
  rfl

/-- Row `r` of what the body stores as the geometry bias. -/
theorem pay12_at (G : FVec Ideal S16x8 .f32) (B : FVec Ideal S1x8 .f32) (h : Fin 8) :
    k0_pay1 (F := Ideal) (k0_pay12 (k0_pay6 x1) (k0_pay7 x2) x3 x4 x5 G B) (ix3 0 r h) = gbias P N C D L G B (ix3 b n h) := by
  pointwise [k0_pay1, k0_pay12, k0_pay9]
  unfold gbias
  simp only [pay8_at x1 x2 x3 x4 x5 P N C D L b n r h1 h2 h3 h4 h5]
  simp only [zero_mul, Finset.sum_const_zero, add_zero]
  rw [named_root]
  rfl

end Block

variable (V : (c : Dev nD) → (b : Ref sig .tc) → Buf (Elt Ideal) ((c : Thread nD τ).loc b))

/-- The batch a grid point works on. -/
def bat (t : Fin cfg0.N) : Fin 4 := ⟨t.val / 8, by have := t.isLt; have : cfg0.N = 32 := rfl; omega⟩
/-- The point of the batch that row `r` of a grid point's block is. -/
def row (t : Fin cfg0.N) (r : Fin 512) : Fin 4096 := ⟨t.val % 8 * 512 + r.val, by omega⟩

/-- The block of principal directions at a grid point. -/
theorem blk1 (c : Dev nD) (t : Fin cfg0.N) (r : Fin 512) (f : Fin 3) :
    iblk0 V c 1 t (ix3 0 r f) = V c main_arg1 (ix3 (bat t) (row t r) f) := by
  blk_ext [iblk0, idx t, bat, row]
/-- The block of normals. -/
theorem blk2 (c : Dev nD) (t : Fin cfg0.N) (r : Fin 512) (f : Fin 3) :
    iblk0 V c 2 t (ix3 0 r f) = V c main_arg4 (ix3 (bat t) (row t r) f) := by
  blk_ext [iblk0, idx t, bat, row]
/-- The block of curvatures. -/
theorem blk3 (c : Dev nD) (t : Fin cfg0.N) (r : Fin 512) :
    iblk0 V c 3 t (ix3 0 r 0) = V c main_arg2 (ix3 (bat t) (row t r) 0) := by
  blk_ext [iblk0, idx t, bat, row]
/-- The block of densities. -/
theorem blk4 (c : Dev nD) (t : Fin cfg0.N) (r : Fin 512) :
    iblk0 V c 4 t (ix3 0 r 0) = V c main_arg3 (ix3 (bat t) (row t r) 0) := by
  blk_ext [iblk0, idx t, bat, row]
/-- The block of linearities. -/
theorem blk5 (c : Dev nD) (t : Fin cfg0.N) (r : Fin 512) :
    iblk0 V c 5 t (ix3 0 r 0) = V c main_arg5 (ix3 (bat t) (row t r) 0) := by
  blk_ext [iblk0, idx t, bat, row]
/-- The block of geometry weights is the whole table. -/
theorem blk9 (c : Dev nD) (t : Fin cfg0.N) : iblk0 V c 9 t = V c main_call0_v2 := by
  blk_ext! [iblk0, idx t]
/-- The block of the bias is the whole row. -/
theorem blk10 (c : Dev nD) (t : Fin cfg0.N) : iblk0 V c 10 t = V c main_call0_v3 := by
  blk_ext! [iblk0, idx t]

/-- The array of the left operands after the region. -/
theorem rowop_arr (c : Dev nD) : (dat0 V c).arrAt 14 cfg0.N
    = rowop (V c main_arg1) (V c main_arg4) (V c main_arg2) (V c main_arg3) (V c main_arg5) := by
  refine (dat0 V c).arrAt_eq_of_covers 14 _ (by decide +kernel) fun t _ y => ?_
  blk_simp
  rw [after0_14]; frame_out
  idx_vars y
  obtain rfl : y0 = 0 := Subsingleton.elim _ _
  unfold k0_pay13 k0_pay14
  unfold r0_2
  rw [View.ld_unit_zero (S := S1x512x3) (off := ![0, 0, 0]) (by decide),
    View.ld_unit_zero (S := S1x512x3) (off := ![0, 0, 0]) (by decide)]
  refine (pay10_at _ _ _ _ _ _ _ _ _ _ _ _ _ (blk1 V c t y1) (blk2 V c t y1) (blk3 V c t y1) (blk4 V c t y1) (blk5 V c t y1) y2).trans ?_
  blk_ext [idx t, bat, row]

/-- The array of the right operands after the region. -/
theorem colop_arr (c : Dev nD) : (dat0 V c).arrAt 15 cfg0.N
    = colop (V c main_arg1) (V c main_arg4) (V c main_arg2) (V c main_arg3) (V c main_arg5) := by
  refine (dat0 V c).arrAt_eq_of_covers 15 _ (by decide +kernel) fun t _ y => ?_
  blk_simp
  rw [after0_15]; frame_out
  idx_vars y
  obtain rfl : y0 = 0 := Subsingleton.elim _ _
  unfold k0_pay13 k0_pay14
  unfold r0_2
  rw [View.ld_unit_zero (S := S1x512x3) (off := ![0, 0, 0]) (by decide),
    View.ld_unit_zero (S := S1x512x3) (off := ![0, 0, 0]) (by decide)]
  refine (pay11_at _ _ _ _ _ _ _ _ _ _ _ _ _ (blk1 V c t y1) (blk2 V c t y1) (blk3 V c t y1) (blk4 V c t y1) (blk5 V c t y1) y2).trans ?_
  blk_ext [idx t, bat, row]

/-- The array of the geometry biases after the region. -/
theorem gbias_arr (c : Dev nD) : (dat0 V c).arrAt 16 cfg0.N
    = gbias (V c main_arg1) (V c main_arg4) (V c main_arg2) (V c main_arg3) (V c main_arg5) (V c main_call0_v2) (V c main_call0_v3) := by
  refine (dat0 V c).arrAt_eq_of_covers 16 _ (by decide +kernel) fun t _ y => ?_
  blk_simp
  rw [after0_16]; frame_out
  idx_vars y
  obtain rfl : y0 = 0 := Subsingleton.elim _ _
  unfold k0_pay13 k0_pay14
  unfold r0_2
  rw [View.ld_unit_zero (S := S1x512x3) (off := ![0, 0, 0]) (by decide),
    View.ld_unit_zero (S := S1x512x3) (off := ![0, 0, 0]) (by decide)]
  rw [blk9, blk10]
  refine (pay12_at _ _ _ _ _ _ _ _ _ _ _ _ _ (blk1 V c t y1) (blk2 V c t y1) (blk3 V c t y1) (blk4 V c t y1) (blk5 V c t y1) _ _ y2).trans ?_
  blk_ext [idx t, bat, row]

end Cert.KernelIdeal.Proj

end
-- ==== Proof.Low.lean ====
/-
  The sixteenth distinct smallest value of a row, as the kernel finds it: take the minimum, replace everything at or
  below it by plus infinity, and repeat.
-/
module

public import Idealize.ShloMosaic.Lib.Pointwise

@[expose] public section

noncomputable section

namespace Cert.Near

open Idealize.ShloMosaic

/-- The smallest value of a row (plus infinity for an empty one). -/
def low {n : ℕ} (e : Fin n → EReal) : EReal := Finset.univ.fold min ⊤ e

/-- A row with its smallest values replaced by plus infinity. -/
def drop {n : ℕ} (e : Fin n → EReal) : Fin n → EReal := fun m => if e m ≤ low e then ⊤ else e m

/-- The smallest value after fifteen such replacements: the sixteenth distinct smallest value. -/
def thr {n : ℕ} (e : Fin n → EReal) : EReal := low (drop^[15] e)

end Cert.Near
-- ==== Proof.Mask.lean ====
/-
  The mask the second region's loop leaves: zero where a shifted squared distance is at most the sixteenth distinct
  smallest one of its row, minus infinity elsewhere.
-/
module

public import proofs.«01_k».proof.Proof.Gen.KernelIdeal.Frame
public import proofs.«01_k».proof.Proof.Low
public import Idealize.ShloMosaic.Lib.Pointwise
public import Idealize.ShloMosaic.Lib.Pipeline.ValueKit

@[expose] public section

set_option maxRecDepth 16384

noncomputable section

namespace Cert.KernelIdeal.Mask

open Idealize.ShloMosaic Idealize.ShloMosaic.TcCoe Idealize.SL.Sem Idealize.ShloMosaic.Tactic
open Cert.KernelIdeal Cert.KernelIdeal.Gen
open Cert.Near (low drop thr)

/-- The smallest value of each row of eight, spread along the row. -/
def lowV (w : FVec Ideal S8x4096 .f32) : FVec Ideal S8x4096 .f32 :=
  broadcastTo S8x4096 (shapeCast S8x1 (multiReduction .minimumf [1] S8 w 0x7F800000#32 reduces_S8x4096_S8 (.inl rfl) rfl)
    shapeCasts_S8_S8x1) broadcasts_S8x1_S8x4096

/-- Eight rows with the smallest values of each replaced by plus infinity. -/
def dropV (w : FVec Ideal S8x4096 .f32) : FVec Ideal S8x4096 .f32 :=
  select (cmpf .ole w (lowV w)) (broadcast S8x4096 (Scalar.ofBits .f32 0x7F800000#32 : Ideal .f32)) w

/-- Plus infinity, as the programs write it. -/
theorem inf_bits : (Ideal.ofBits .f32 0x7F800000#32 : EReal) = ⊤ := by simp [Ideal.ofBits, Ideal.ieee]

/-- The body's row minimum is `low` of the row. -/
theorem lowV_at (w : FVec Ideal S8x4096 .f32) (r : Fin 8) (l : Fin 4096) : lowV w (ix2 r l) = low fun m => w (ix2 r m) := by
  pointwise [lowV]
  rw [inf_bits]; rfl

/-- The body's removal of a row's minimum is `drop` of the row. -/
theorem dropV_at (w : FVec Ideal S8x4096 .f32) (r : Fin 8) (l : Fin 4096) : dropV w (ix2 r l) = drop (fun m => w (ix2 r m)) l := by
  pointwise [dropV]
  rw [lowV_at]
  unfold drop
  simp only [inf_bits]

/-- Removed `i` times, row by row. -/
theorem dropV_iter (w : FVec Ideal S8x4096 .f32) (r : Fin 8) (i : ℕ) (l : Fin 4096) :
    (dropV^[i] w) (ix2 r l) = (drop^[i] (fun m => w (ix2 r m))) l := by
  induction i generalizing w with
  | zero => rfl
  | succ i ih =>
    rw [Function.iterate_succ_apply, Function.iterate_succ_apply, ih]
    rw [show (fun m => dropV w (ix2 r m)) = drop fun m => w (ix2 r m) from funext fun m => dropV_at w r m]

/-- What one trip stores, given the eight rows it loads. -/
def maskBlk (x : FVec Ideal S8x4096 .f32) : FVec Ideal S8x4096 .f32 :=
  k1_pay6 (F := Ideal) x (k1_pay4 (Scalar.ofBits .f32 0x7F800000#32) (k1_pay2 (Scalar.ofBits .f32 0x7F800000#32) x)
    (k1_pay3 (F := Ideal) (Scalar.ofBits .f32 0x7F800000#32) x))

/-- The first seven replacements, as the loop's first part makes them. -/
theorem pay2_eq (x : FVec Ideal S8x4096 .f32) :
    k1_pay2 (F := Ideal) (Scalar.ofBits .f32 0x7F800000#32) x = dropV (dropV (dropV (dropV (dropV (dropV (dropV x)))))) := by
  with_unfolding_all rfl

/-- The other eight and the last minimum, as its second part makes them. -/
theorem pay4_eq (w : FVec Ideal S8x4096 .f32) :
    k1_pay4 (F := Ideal) (Scalar.ofBits .f32 0x7F800000#32) w (cmpf .ole w (lowV w))
      = lowV (dropV (dropV (dropV (dropV (dropV (dropV (dropV (dropV w)))))))) := by
  simp only [k1_pay4, dropV, lowV]

/-- A function applied fifteen times, written out. -/
theorem iter15 {α : Type} (f : α → α) (x : α) : f^[15] x = f (f (f (f (f (f (f (f (f (f (f (f (f (f (f (x))))))))))))))) := rfl

/-- The body's threshold is the minimum left after fifteen removals. -/
theorem thrV_eq (x : FVec Ideal S8x4096 .f32) :
    k1_pay4 (F := Ideal) (Scalar.ofBits .f32 0x7F800000#32) (k1_pay2 (F := Ideal) (Scalar.ofBits .f32 0x7F800000#32) x)
      (k1_pay3 (F := Ideal) (Scalar.ofBits .f32 0x7F800000#32) x) = lowV (dropV^[15] x) := by
  have h : k1_pay3 (F := Ideal) (Scalar.ofBits .f32 0x7F800000#32) x
      = cmpf .ole (k1_pay2 (F := Ideal) (Scalar.ofBits .f32 0x7F800000#32) x)
          (lowV (k1_pay2 (F := Ideal) (Scalar.ofBits .f32 0x7F800000#32) x)) := rfl
  rw [h, pay4_eq, pay2_eq, iter15]

/-- The constant named "mask" is minus infinity. -/
theorem named_mask : (Named.named κ "mask" 0xF149F2CA#32 : Ideal .f32) = (⊥ : EReal) := rfl

/-- One entry of the mask: zero at or below the row's threshold, minus infinity above it. -/
theorem maskBlk_at (x : FVec Ideal S8x4096 .f32) (r : Fin 8) (l : Fin 4096) :
    maskBlk x (ix2 r l) = if x (ix2 r l) ≤ thr (fun m => x (ix2 r m)) then 0 else ⊥ := by
  unfold maskBlk
  rw [thrV_eq]
  pointwise [k1_pay6]
  rw [lowV_at]
  simp only [dropV_iter, named_mask]
  unfold thr
  rfl

/-- The mask of a whole block, from its shifted squared distances. -/
def mask (D : FVec Ideal S512x4096 .f32) : FVec Ideal S512x4096 .f32 := fun y =>
  if D y ≤ thr (fun m : Fin 4096 => D (ix2 (y 0) m)) then 0 else ⊥

section Loop
variable (𝒱 : Variants) (c : Dev nD) (bd : Option 𝒱.V) (i : grid1.Coords) (arg2 : Memref sig .tc .vmem S1x512x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x512x16 .f32) (harg5 : arg5.IsWhole) (arg6 : Memref sig .tc .vmem S1x4096x16 .f32) (harg6 : arg6.IsWhole) (arg7 : Memref sig .tc .vmem S1x4096x8 .bf16) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x4096 .f32) (harg10 : arg10.IsWhole) (arg11 : Memref sig .tc .vmem S512x4096 .f32) (harg11 : arg11.IsWhole) (X : BufTy.Contents (Elt Ideal) arg10.view.ty)

/-- The rectangle trip `k` reads and writes: rows `8 k` to `8 k + 7`. -/
abbrev rows (k : Fin k1_t1_loop.trips) : Rect S512x4096 := Rect.unit (s := S512x4096) (k1_off1 k) S8x4096.size (k1_off1_inb k)

/-- One trip stores the mask of its eight rows. -/
theorem tripL_eq (k : Fin k1_t1_loop.trips) :
    tripL_k1_t1 (F := Ideal) 𝒱 c bd i arg2 harg2 arg3 harg3 arg4 harg4 arg5 harg5 arg6 harg6 arg7 harg7 arg8 harg8 arg9 harg9 arg10 harg10 arg11 harg11 (Scalar.ofBits .f32 0x7F800000#32) X k
      = [⟨rows k, maskBlk (arg10.view.readAt (Elt Ideal) (rows k).toLoadRect X)⟩] := by
  unfold tripL_k1_t1 trip_k1_t1
  dsimp only
  sl_unfold_words
  rfl

/-- The pieces of the trips before `k` all agree with the mask. -/
theorem pb_agree (k : ℕ) (hk : k ≤ k1_t1_loop.trips) : ∀ p ∈
    pb_k1_t1 (F := Ideal) 𝒱 c bd i arg2 harg2 arg3 harg3 arg4 harg4 arg5 harg5 arg6 harg6 arg7 harg7 arg8 harg8 arg9 harg9 arg10 harg10 arg11 harg11 (Scalar.ofBits .f32 0x7F800000#32) X k,
      ∀ x : p.1.shape.Idx, p.2 x = mask (arg10.view.read (Elt Ideal) X) (p.1.emb x) := by
  induction k with
  | zero => intro p hp; exact absurd hp List.not_mem_nil
  | succ k ih =>
    intro p hp
    rw [show k + 1 = (⟨k, hk⟩ : Fin k1_t1_loop.trips).val + 1 from rfl, pb_k1_t1_succ, tripL_eq] at hp
    rcases List.mem_append.mp hp with hp | hp
    · obtain rfl := List.mem_singleton.mp hp
      intro x
      obtain ⟨r, l, rfl⟩ : ∃ (r : Fin 8) (l : Fin 4096), x = ix2 r l := ⟨x 0, x 1, by exact eq_ix2 x⟩
      have hk' : k < 64 := hk
      have e0 : ∀ l : Fin 4096, (rows ⟨k, hk⟩).emb (ix2 r l) = (ix2 (⟨8 * k + r.val, by omega⟩ : Fin 512) l : S512x4096.Idx) := by
        intro l
        refine funext fun a => Fin.ext ?_
        match a with
        | ⟨0, _⟩ =>
          show k1_off1 ⟨k, hk⟩ 0 + 1 * r.val = 8 * k + r.val
          rw [k1_off1_eq]
          show 8 * k + 1 * r.val = 8 * k + r.val
          omega
        | ⟨1, _⟩ =>
          show k1_off1 ⟨k, hk⟩ 1 + 1 * l.val = l.val
          rw [k1_off1_eq]
          show 0 + 1 * l.val = l.val
          omega
      have e : ∀ l : Fin 4096, View.readAt (Elt Ideal) arg10.view (rows ⟨k, hk⟩).toLoadRect X (ix2 r l)
          = arg10.view.read (Elt Ideal) X (ix2 (⟨8 * k + r.val, by omega⟩ : Fin 512) l) := fun l => by
        rw [View.readAt_eq_ld]
        exact congrArg (arg10.view.read (Elt Ideal) X) (e0 l)
      refine ((maskBlk_at _ r l).trans ?_).trans (congrArg (mask (arg10.view.read (Elt Ideal) X)) (e0 l)).symm
      simp only [e]
      rfl
    · exact ih (Nat.le_of_succ_le hk) p hp

/-- Row `r` is written by trip `r / 8`. -/
theorem pb_cover (k : ℕ) (hk : k ≤ k1_t1_loop.trips) (y : S512x4096.Idx) (hy : (y 0).val < 8 * k) : ∃ p ∈
    pb_k1_t1 (F := Ideal) 𝒱 c bd i arg2 harg2 arg3 harg3 arg4 harg4 arg5 harg5 arg6 harg6 arg7 harg7 arg8 harg8 arg9 harg9 arg10 harg10 arg11 harg11 (Scalar.ofBits .f32 0x7F800000#32) X k,
      y ∈ p.1.set := by
  induction k with
  | zero => omega
  | succ k ih =>
    rw [show k + 1 = (⟨k, hk⟩ : Fin k1_t1_loop.trips).val + 1 from rfl, pb_k1_t1_succ, tripL_eq]
    by_cases h : (y 0).val < 8 * k
    · obtain ⟨p, hp, hm⟩ := ih (Nat.le_of_succ_le hk) h
      exact ⟨p, List.mem_append_right _ hp, hm⟩
    · refine ⟨_, List.mem_append_left _ (List.mem_singleton_self _), ?_⟩
      have h1 : (y 1).val < 4096 := (y 1).isLt
      rw [Rect.mem_set_unit]
      rw [k1_off1_eq]
      intro a
      match a with
      | ⟨0, _⟩ =>
        show 8 * k ≤ (y 0).val ∧ (y 0).val < 8 * k + 8
        omega
      | ⟨1, _⟩ =>
        show 0 ≤ (y 1).val ∧ (y 1).val < 0 + 4096
        omega

/-- So after the last trip the buffer holds the mask of the rows it read. -/
theorem canon_pb : View.canon
    (pb_k1_t1 (F := Ideal) 𝒱 c bd i arg2 harg2 arg3 harg3 arg4 harg4 arg5 harg5 arg6 harg6 arg7 harg7 arg8 harg8 arg9 harg9 arg10 harg10 arg11 harg11 (Scalar.ofBits .f32 0x7F800000#32) X k1_t1_loop.trips)
      = mask (arg10.view.read (Elt Ideal) X) :=
  funext fun y => View.canon_apply_of_pieces _ _
    (pb_agree 𝒱 c bd i arg2 harg2 arg3 harg3 arg4 harg4 arg5 harg5 arg6 harg6 arg7 harg7 arg8 harg8 arg9 harg9 arg10 harg10 arg11 harg11 X _ le_rfl) y
    (pb_cover 𝒱 c bd i arg2 harg2 arg3 harg3 arg4 harg4 arg5 harg5 arg6 harg6 arg7 harg7 arg8 harg8 arg9 harg9 arg10 harg10 arg11 harg11 X _ le_rfl y
      (lt_of_lt_of_le (y 0).isLt (by decide)))

end Loop

end Cert.KernelIdeal.Mask
-- ==== Proof.Att.lean ====
/-
  What one block of the second region computes: each head's weighted mean of the values, and its product with the
  output matrix.
-/
module

public import proofs.«01_k».proof.Proof.Mask

@[expose] public section

set_option maxRecDepth 16384

noncomputable section

namespace Cert.KernelIdeal.Att

open Idealize.ShloMosaic Idealize.ShloMosaic.TcCoe Idealize.SL.Sem Idealize.ShloMosaic.Tactic
open Cert.KernelIdeal Cert.KernelIdeal.Gen

/-- Column `i` of head `h`. -/
def col (h : Fin 8) (i : Fin 32) : Fin 256 := ⟨32 * h.val + i.val, by omega⟩

/-- The factor of the exponent: one over the square root of 32, over the logarithm of two. -/
def c2 : EReal := Scalar.mulf (F := Ideal) (φ := .f32) (Named.named κ "scale" 0x3E3504F3#32) (Named.named κ "log2e" 0x3FB8AA3B#32)

/-- The weight of key `m` for query row `r` in head `h`. -/
def wt (q : Fin 256 → EReal) (k : Fin 4096 → Fin 256 → EReal) (g : Fin 4096 → Fin 8 → EReal) (msk : Fin 4096 → EReal)
    (h : Fin 8) (m : Fin 4096) : EReal :=
  Ideal.exp2 (((∑ i : Fin 32, q (col h i) * k m (col h i)) + g m h + msk m) * c2)

/-- Column `j` of one row of the heads' outputs. -/
def headAt (q : Fin 256 → EReal) (k v : Fin 4096 → Fin 256 → EReal) (g : Fin 4096 → Fin 8 → EReal) (msk : Fin 4096 → EReal)
    (h : Fin 8) (j : Fin 32) : EReal :=
  Ideal.div (∑ m : Fin 4096, wt q k g msk h m * v m (col h j)) (∑ m : Fin 4096, wt q k g msk h m)

section Heads
variable (q : FVec Ideal S512x256 .bf16) (k v : FVec Ideal S4096x256 .bf16) (x5 : Vec Ideal S1x4096x8 .bf16)
  (msk : FVec Ideal S512x4096 .f32) (r : Fin 512) (j : Fin 32)

/-- A head of one row of a block. -/
def hd (h : Fin 8) : EReal :=
  headAt (fun c => q (ix2 r c)) (fun m c => k (ix2 m c)) (fun m c => v (ix2 m c)) (fun m h => x5 (ix3 0 m h)) (fun m => msk (ix2 r m)) h j

/-- Head 0 of one row of a block, as the body computes it, is `headAt` at head 0. -/
theorem head0 : k1_pay13 (F := Ideal) q k v x5 msk (ix2 r j) = hd q k v x5 msk r j 0 := by
  have hc : ∀ i : Fin 32, col 0 i = ⟨i.val, by omega⟩ := fun i => Fin.ext (by simp [col])
  pointwise [k1_pay13, k1_pay10, k1_pay11, k1_pay12]
  simp only [Fintype.sum_unique]
  unfold hd headAt wt c2
  simp only [hc]
  rfl

/-- Head 1 of one row of a block, as the body computes it, is `headAt` at head 1. -/
theorem head1 : k1_pay14 (F := Ideal) q k v x5 msk (ix2 r j) = hd q k v x5 msk r j 1 := by
  have hc : ∀ i : Fin 32, col 1 i = ⟨32 + i.val, by omega⟩ := fun i => Fin.ext (by simp [col])
  pointwise [k1_pay14, k1_pay10, k1_pay11, k1_pay12]
  simp only [Fintype.sum_unique]
  unfold hd headAt wt c2
  simp only [hc]
  rfl

/-- Head 2 of one row of a block, as the body computes it, is `headAt` at head 2. -/
theorem head2 : k1_pay17 (F := Ideal) v (k1_pay12 (F := Ideal)) msk (k1_pay15 q) (k1_pay16 k x5) (ix2 r j) = hd q k v x5 msk r j 2 := by
  have hc : ∀ i : Fin 32, col 2 i = ⟨64 + i.val, by omega⟩ := fun i => Fin.ext (by simp [col])
  pointwise [k1_pay17, k1_pay15, k1_pay16, k1_pay10, k1_pay11, k1_pay12]
  simp only [Fintype.sum_unique]
  unfold hd headAt wt c2
  simp only [hc]
  rfl

/-- Head 3 of one row of a block, as the body computes it, is `headAt` at head 3. -/
theorem head3 : k1_pay18 (F := Ideal) q k v (k1_pay10 x5) (k1_pay11 (F := Ideal)) (k1_pay12 (F := Ideal)) msk (ix2 r j) = hd q k v x5 msk r j 3 := by
  have hc : ∀ i : Fin 32, col 3 i = ⟨96 + i.val, by omega⟩ := fun i => Fin.ext (by simp [col])
  pointwise [k1_pay18, k1_pay10, k1_pay11, k1_pay12]
  simp only [Fintype.sum_unique]
  unfold hd headAt wt c2
  simp only [hc]
  rfl

/-- Head 4 of one row of a block, as the body computes it, is `headAt` at head 4. -/
theorem head4 : k1_pay20 (F := Ideal) (k1_pay19 (F := Ideal) q k v (k1_pay10 x5) (k1_pay11 (F := Ideal)) (k1_pay12 (F := Ideal)) msk) (ix2 r j) = hd q k v x5 msk r j 4 := by
  have hc : ∀ i : Fin 32, col 4 i = ⟨128 + i.val, by omega⟩ := fun i => Fin.ext (by simp [col])
  pointwise [k1_pay20, k1_pay19, k1_pay10, k1_pay11, k1_pay12]
  simp only [Fintype.sum_unique]
  unfold hd headAt wt c2
  simp only [hc]
  rfl

/-- Head 5 of one row of a block, as the body computes it, is `headAt` at head 5. -/
theorem head5 : k1_pay21 (F := Ideal) q k v (k1_pay10 x5) (k1_pay11 (F := Ideal)) (k1_pay12 (F := Ideal)) msk (ix2 r j) = hd q k v x5 msk r j 5 := by
  have hc : ∀ i : Fin 32, col 5 i = ⟨160 + i.val, by omega⟩ := fun i => Fin.ext (by simp [col])
  pointwise [k1_pay21, k1_pay10, k1_pay11, k1_pay12]
  simp only [Fintype.sum_unique]
  unfold hd headAt wt c2
  simp only [hc]
  rfl

/-- Head 6 of one row of a block, as the body computes it, is `headAt` at head 6. -/
theorem head6 : k1_pay22 (F := Ideal) q k v (k1_pay10 x5) (k1_pay11 (F := Ideal)) (k1_pay12 (F := Ideal)) msk (ix2 r j) = hd q k v x5 msk r j 6 := by
  have hc : ∀ i : Fin 32, col 6 i = ⟨192 + i.val, by omega⟩ := fun i => Fin.ext (by simp [col])
  pointwise [k1_pay22, k1_pay10, k1_pay11, k1_pay12]
  simp only [Fintype.sum_unique]
  unfold hd headAt wt c2
  simp only [hc]
  rfl

end Heads

/-- The ninth unit vector, as the kernel writes it. -/
theorem e9_at (b : Fin 16) : (FloatOps.sitofp FTy.f32 (BitVec.setWidth 32 (IntOp.cmpi CmpIPredicate.eq (BitVec.ofNat 32 b.val) 9#32)) : Ideal .f32)
    = if b = 9 then (1 : EReal) else 0 := by
  revert b
  intro b
  fin_cases b <;> simp [FloatOps.sitofp, IntOp.cmpi] <;> rfl

/-- The shifted squared distance the second region computes: entry `m` of the product of the row's left operand with the
    right operands, plus the ninth coordinate of the right operand. -/
theorem dist_at (x3 : FVec Ideal S1x512x16 .f32) (x4 : FVec Ideal S1x4096x16 .f32) (r : Fin 512) (m : Fin 4096) :
    k1_pay5 (F := Ideal) x3 x4 x4 (ix2 r m)
      = (∑ f : Fin 16, x3 (ix3 0 r f) * x4 (ix3 0 m f)) + x4 (ix3 0 m 9) := by
  pointwise [k1_pay5]
  refine congrArg (_ + ·) ?_
  rw [Finset.sum_eq_single (9 : Fin 16)]
  · exact (congrArg (· * x4 (ix3 0 m 9)) (e9_at 9)).trans (by simp)
  · intro b _ hb
    exact (congrArg (· * x4 (ix3 0 m b)) (e9_at b)).trans (by simp [hb])
  · intro h; exact absurd (Finset.mem_univ _) h

end Cert.KernelIdeal.Att
-- ==== Proof.Out.lean ====
/-
  What the second region's body leaves at one grid point, as a function of the blocks it reads.
-/
module

public import proofs.«01_k».proof.Proof.Att

@[expose] public section

set_option maxRecDepth 16384

noncomputable section

namespace Cert.KernelIdeal.Att

open Idealize.ShloMosaic Idealize.ShloMosaic.TcCoe Idealize.SL.Sem Idealize.ShloMosaic.Tactic
open Cert.KernelIdeal Cert.KernelIdeal.Gen

/-- The block the body stores, from the blocks it reads: the mask of the shifted squared distances, the eight heads, and
    their product with the output matrix. -/
def blockOut (x0 : FVec Ideal S1x512x256 .bf16) (x1 x2 : FVec Ideal S1x4096x256 .bf16) (x5 : FVec Ideal S1x4096x8 .bf16)
    (msk : FVec Ideal S512x4096 .f32) (W : FVec Ideal S256x256 .f32) : FVec Ideal S1x512x256 .f32 :=
  k1_pay1 (F := Ideal) msk (k1_pay13 (k1_pay7 x0) (k1_pay8 x1) (k1_pay9 x2) x5 msk) (k1_pay14 (k1_pay7 x0) (k1_pay8 x1) (k1_pay9 x2) x5 msk)
      (k1_pay17 (k1_pay9 x2) (k1_pay12 (F := Ideal)) msk (k1_pay15 (k1_pay7 x0)) (k1_pay16 (k1_pay8 x1) x5))
      (k1_pay18 (k1_pay7 x0) (k1_pay8 x1) (k1_pay9 x2) (k1_pay10 x5) (k1_pay11 (F := Ideal)) (k1_pay12 (F := Ideal)) msk)
      (k1_pay20 (k1_pay19 (k1_pay7 x0) (k1_pay8 x1) (k1_pay9 x2) (k1_pay10 x5) (k1_pay11 (F := Ideal)) (k1_pay12 (F := Ideal)) msk))
      (k1_pay21 (k1_pay7 x0) (k1_pay8 x1) (k1_pay9 x2) (k1_pay10 x5) (k1_pay11 (F := Ideal)) (k1_pay12 (F := Ideal)) msk)
      (k1_pay22 (k1_pay7 x0) (k1_pay8 x1) (k1_pay9 x2) (k1_pay10 x5) (k1_pay11 (F := Ideal)) (k1_pay12 (F := Ideal)) msk)
      (k1_pay23 (k1_pay9 x2) (k1_pay12 (F := Ideal))) (k1_pay24 (k1_pay7 x0) (k1_pay8 x1) (k1_pay10 x5) (k1_pay11 (F := Ideal)))
      (Named.named κ "scale" 0x3E3504F3#32) W

/-- Loading the whole of an input's block reads the block. -/
theorem readW {S : Shape} {e : EltTy} (m : Memref sig .tc .vmem S e) (hm : m.IsWhole) {off : Fin S.rank → ℕ} (h0 : off = fun _ => 0)
    (inb : ∀ a, off a + S.size a ≤ S.size a) (X : S.Idx → Elt Ideal e) :
    m.view.readAt (Elt Ideal) (Rect.unit off S.size inb).toLoadRect (hm.unread X) = X := by
  rw [View.readAt_eq_ld, hm.read_unread]
  exact View.ld_unit_zero h0 inb X

/-- The mask buffer, read back after the loop. -/
theorem maskRead (𝒱 : Variants) (c : Dev nD) (bd : Option 𝒱.V) (i : grid1.Coords) (arg2 : Memref sig .tc .vmem S1x512x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x512x16 .f32) (harg5 : arg5.IsWhole) (arg6 : Memref sig .tc .vmem S1x4096x16 .f32) (harg6 : arg6.IsWhole) (arg7 : Memref sig .tc .vmem S1x4096x8 .bf16) (harg7 : arg7.IsWhole) (arg8 : Memref sig .tc .vmem S256x256 .f32) (harg8 : arg8.IsWhole) (arg9 : Memref sig .tc .vmem S1x512x256 .f32) (harg9 : arg9.IsWhole) (arg10 : Memref sig .tc .vmem S512x4096 .f32) (harg10 : arg10.IsWhole) (arg11 : Memref sig .tc .vmem S512x4096 .f32) (harg11 : arg11.IsWhole) (D : FVec Ideal S512x4096 .f32) :
    arg11.view.readCov
      (pb_k1_t1 (F := Ideal) 𝒱 c bd i arg2 harg2 arg3 harg3 arg4 harg4 arg5 harg5 arg6 harg6 arg7 harg7 arg8 harg8 arg9 harg9 arg10 harg10 arg11 harg11 (Scalar.ofBits .f32 0x7F800000#32)
        (arg10.view.writes (Elt Ideal) arg10.view.junk [⟨Rect.unit ![0, 0] S512x4096.size inb_S512x4096_S512x4096_0_0, D⟩])
        (Scf.trips k1_t1_loop.lb k1_t1_loop.ub k1_t1_loop.st))
      (Rect.unit ![0, 0] S512x4096.size inb_S512x4096_S512x4096_0_0).toLoadRect = Mask.mask D := by
  rw [View.readCov_eq_canon', show Scf.trips k1_t1_loop.lb k1_t1_loop.ub k1_t1_loop.st = k1_t1_loop.trips from rfl, Mask.canon_pb,
    View.read_writes_junk_eq_canon, View.canon_cons_unit_lit' _ _ _ (by decide)]
  exact View.ld_unit_zero (Val := Elt Ideal) (S := S512x4096) (e := .f32) (off := ![0, 0]) (by decide) inb_S512x4096_S512x4096_0_0 (Mask.mask D)

variable (V : (c : Dev nD) → (b : Ref sig .tc) → Buf (Elt Ideal) ((c : Thread nD τ).loc b))

/-- What the body leaves at point `t`: its stores read back. -/
theorem outs_eq (c : Dev nD) (t : Fin cfg1.N) : outsAt1 V c t =
    blockOut (iblk1 V c 0 t) (iblk1 V c 1 t) (iblk1 V c 2 t) (iblk1 V c 5 t)
      (Mask.mask (k1_pay5 (F := Ideal) (iblk1 V c 3 t) (iblk1 V c 4 t) (iblk1 V c 4 t))) (iblk1 V c 6 t) := by
  unfold outsAt1 out1_A_7
  rw [View.read_writes_eq_canon _ _ _ (cover1_A_7 c _ _ _ _ _ _ _ _ _ _ _ _ _ _ _ _ _ _ _ _ _ _ _ _ _ _ _ _)]
  unfold kernelRun1_A
  dsimp only
  sl_unfold_words
  rw [maskRead]
  rw [readW (S := S1x512x256) (off := ![0, 0, 0]) (ms1_0 t) (hs1_0 t) (by decide), readW (S := S1x4096x256) (off := ![0, 0, 0]) (ms1_1 t) (hs1_1 t) (by decide), readW (S := S1x4096x256) (off := ![0, 0, 0]) (ms1_2 t) (hs1_2 t) (by decide),
    readW (S := S1x512x16) (off := ![0, 0, 0]) (ms1_3 t) (hs1_3 t) (by decide), readW (S := S1x4096x16) (off := ![0, 0, 0]) (ms1_4 t) (hs1_4 t) (by decide), readW (S := S1x4096x8) (off := ![0, 0, 0]) (ms1_5 t) (hs1_5 t) (by decide)]
  refine (View.canon_cons_unit_lit' _ _ _ (by decide)).trans ?_
  unfold blockOut
  exact congrArg _ (readW (S := S256x256) (off := ![0, 0]) (ms1_6 t) (hs1_6 t) (by decide) _ _)

end Cert.KernelIdeal.Att
-- ==== Proof.Join.lean ====
/-
  The heads of one block joined and multiplied by the output matrix.
-/
module

public import proofs.«01_k».proof.Proof.Att

@[expose] public section

set_option maxRecDepth 16384

noncomputable section

namespace Cert.KernelIdeal.Att

open Idealize.ShloMosaic Idealize.ShloMosaic.TcCoe Idealize.SL.Sem Idealize.ShloMosaic.Tactic
open Cert.KernelIdeal Cert.KernelIdeal.Gen

section Heads
variable (q : FVec Ideal S512x256 .bf16) (k v : FVec Ideal S4096x256 .bf16) (x5 : Vec Ideal S1x4096x8 .bf16)
  (msk : FVec Ideal S512x4096 .f32) (r : Fin 512) (j : Fin 32)

/-- A head of one row depends on the numbers of the head and of the column only. -/
theorem hd_congr {j j' : Fin 32} {h h' : Fin 8} (ej : j.val = j'.val) (eh : h.val = h'.val) :
    hd q k v x5 msk r j h = hd q k v x5 msk r j' h' := by
  rw [Fin.ext ej, Fin.ext eh]

/-- The last head is computed where the heads are joined: the joined heads' columns, head by head. -/
theorem out_at (W : FVec Ideal S256x256 .f32) (j : Fin 256) :
    k1_pay1 (F := Ideal) msk (k1_pay13 q k v x5 msk) (k1_pay14 q k v x5 msk)
      (k1_pay17 v (k1_pay12 (F := Ideal)) msk (k1_pay15 q) (k1_pay16 k x5))
      (k1_pay18 q k v (k1_pay10 x5) (k1_pay11 (F := Ideal)) (k1_pay12 (F := Ideal)) msk)
      (k1_pay20 (k1_pay19 q k v (k1_pay10 x5) (k1_pay11 (F := Ideal)) (k1_pay12 (F := Ideal)) msk))
      (k1_pay21 q k v (k1_pay10 x5) (k1_pay11 (F := Ideal)) (k1_pay12 (F := Ideal)) msk)
      (k1_pay22 q k v (k1_pay10 x5) (k1_pay11 (F := Ideal)) (k1_pay12 (F := Ideal)) msk)
      (k1_pay23 v (k1_pay12 (F := Ideal))) (k1_pay24 q k (k1_pay10 x5) (k1_pay11 (F := Ideal)))
      (Named.named κ "scale" 0x3E3504F3#32) W (ix3 0 r j)
      = ∑ c : Fin 256, hd q k v x5 msk r ⟨c.val % 32, Nat.mod_lt _ (by decide)⟩ ⟨c.val / 32, by omega⟩ * W (ix2 c j) := by
  have hc : ∀ i : Fin 32, col 7 i = ⟨224 + i.val, by omega⟩ := fun i => Fin.ext (by simp [col])
  pointwise [k1_pay1, k1_pay23, k1_pay24]
  simp only [head0, head1, head2, head3, head4, head5, head6]
  refine Finset.sum_congr rfl fun c _ => congrArg (· * W (ix2 c j)) ?_
  have hlt := c.isLt
  by_cases h0 : c.val < 32
  · rw [dif_pos h0]
    exact hd_congr q k v x5 msk r (by dsimp only; omega) (by show 0 = c.val / 32; omega)
  rw [dif_neg h0]
  by_cases h1 : c.val - 32 < 32
  · rw [dif_pos h1]
    exact hd_congr q k v x5 msk r (by dsimp only; omega) (by show 1 = c.val / 32; omega)
  rw [dif_neg h1]
  by_cases h2 : c.val - 32 - 32 < 32
  · rw [dif_pos h2]
    exact hd_congr q k v x5 msk r (by dsimp only; omega) (by show 2 = c.val / 32; omega)
  rw [dif_neg h2]
  by_cases h3 : c.val - 32 - 32 - 32 < 32
  · rw [dif_pos h3]
    exact hd_congr q k v x5 msk r (by dsimp only; omega) (by show 3 = c.val / 32; omega)
  rw [dif_neg h3]
  by_cases h4 : c.val - 32 - 32 - 32 - 32 < 32
  · rw [dif_pos h4]
    exact hd_congr q k v x5 msk r (by dsimp only; omega) (by show 4 = c.val / 32; omega)
  rw [dif_neg h4]
  by_cases h5 : c.val - 32 - 32 - 32 - 32 - 32 < 32
  · rw [dif_pos h5]
    exact hd_congr q k v x5 msk r (by dsimp only; omega) (by show 5 = c.val / 32; omega)
  rw [dif_neg h5]
  by_cases h6 : c.val - 32 - 32 - 32 - 32 - 32 - 32 < 32
  · rw [dif_pos h6]
    exact hd_congr q k v x5 msk r (by dsimp only; omega) (by show 6 = c.val / 32; omega)
  rw [dif_neg h6]
  have h7 : c.val - 32 - 32 - 32 - 32 - 32 - 32 - 32 < 32 := by omega
  refine Eq.trans ?_ (hd_congr q k v x5 msk r (j := ⟨c.val - 32 - 32 - 32 - 32 - 32 - 32 - 32, h7⟩) (h := 7)
    (by dsimp only; omega) (by show 7 = c.val / 32; omega))
  simp only [dif_pos h7]
  pointwise [k1_pay10, k1_pay11, k1_pay12]
  simp only [Fintype.sum_unique]
  unfold hd headAt wt c2
  simp only [hc]
  rfl

end Heads

end Cert.KernelIdeal.Att
-- ==== Proof.KArr.lean ====
/-
  The kernel's result array after the second region, element by element.
-/
module

public import proofs.«01_k».proof.Proof.Out
public import proofs.«01_k».proof.Proof.Join

@[expose] public section

set_option maxRecDepth 16384

noncomputable section

namespace Cert.KernelIdeal.Att

open Idealize.ShloMosaic Idealize.ShloMosaic.TcCoe Idealize.SL.Sem
open Cert.KernelIdeal Cert.KernelIdeal.Gen
open Cert.Near (thr)

/-- The shifted squared distance from point `n` to point `m` of batch `b`, from the two operands. -/
def edist (RO CO : FVec Ideal S4x4096x16 .f32) (b : Fin 4) (n m : Fin 4096) : EReal :=
  (∑ f : Fin 16, RO (ix3 b n f) * CO (ix3 b m f)) + CO (ix3 b m 9)

/-- The mask of a row of distances. -/
def maskOf (e : Fin 4096 → EReal) (m : Fin 4096) : EReal := if e m ≤ thr e then 0 else ⊥

/-- The kernel's result, from the arrays its second region reads. -/
def kout (Q K Vv : FVec Ideal S4x4096x256 .bf16) (RO CO : FVec Ideal S4x4096x16 .f32) (GB : FVec Ideal S4x4096x8 .bf16)
    (W : FVec Ideal S256x256 .f32) : FVec Ideal S4x4096x256 .f32 := fun j =>
  ∑ c : Fin 256, headAt (fun a => Q (ix3 (j 0) (j 1) a)) (fun m a => K (ix3 (j 0) m a)) (fun m a => Vv (ix3 (j 0) m a))
    (fun m h => GB (ix3 (j 0) m h)) (maskOf (edist RO CO (j 0) (j 1))) ⟨c.val / 32, by omega⟩ ⟨c.val % 32, Nat.mod_lt _ (by decide)⟩
    * W (ix2 c (j 2))

variable (V : (c : Dev nD) → (b : Ref sig .tc) → Buf (Elt Ideal) ((c : Thread nD τ).loc b))

/-- Every window's block index at every grid point. -/
theorem idx1 : ∀ t : Fin cfg1.N, win1_0.index t = ![t.val / 8, t.val % 8, 0] ∧ win1_1.index t = ![t.val / 8, 0, 0]
    ∧ win1_2.index t = ![t.val / 8, 0, 0] ∧ win1_3.index t = ![t.val / 8, t.val % 8, 0]
    ∧ win1_4.index t = ![t.val / 8, 0, 0] ∧ win1_5.index t = ![t.val / 8, 0, 0]
    ∧ win1_6.index t = ![0, 0] ∧ win1_7.index t = ![t.val / 8, t.val % 8, 0] :=
  (by decide +kernel : ∀ t : Fin grid1.N, _)

/-- The batch a grid point works on. -/
def bat (t : Fin cfg1.N) : Fin 4 := ⟨t.val / 8, by have := t.isLt; have : cfg1.N = 32 := rfl; omega⟩
/-- The point of the batch that row `r` of a grid point's block is. -/
def row (t : Fin cfg1.N) (r : Fin 512) : Fin 4096 := ⟨t.val % 8 * 512 + r.val, by omega⟩

/-- The block of queries at a grid point is its rows of the query array. -/
theorem b0 (c : Dev nD) (t : Fin cfg1.N) (r : Fin 512) (a : Fin 256) :
    iblk1 V c 0 t (ix3 0 r a) = V c main_call0_v4_0 (ix3 (bat t) (row t r) a) := by
  blk_ext [iblk1, idx1 t, bat, row]
/-- The block of keys is its batch of the key array. -/
theorem b1 (c : Dev nD) (t : Fin cfg1.N) (m : Fin 4096) (a : Fin 256) :
    iblk1 V c 1 t (ix3 0 m a) = V c main_call0_v4_1 (ix3 (bat t) m a) := by
  blk_ext [iblk1, idx1 t, bat]
/-- The block of values is its batch of the value array. -/
theorem b2 (c : Dev nD) (t : Fin cfg1.N) (m : Fin 4096) (a : Fin 256) :
    iblk1 V c 2 t (ix3 0 m a) = V c main_call0_v4_2 (ix3 (bat t) m a) := by
  blk_ext [iblk1, idx1 t, bat]
/-- The block of the distances' left operand is its rows of that array. -/
theorem b3 (c : Dev nD) (t : Fin cfg1.N) (r : Fin 512) (f : Fin 16) :
    iblk1 V c 3 t (ix3 0 r f) = V c main_call0_v4_3 (ix3 (bat t) (row t r) f) := by
  blk_ext [iblk1, idx1 t, bat, row]
/-- The block of the distances' right operand is its batch of that array. -/
theorem b4 (c : Dev nD) (t : Fin cfg1.N) (m : Fin 4096) (f : Fin 16) :
    iblk1 V c 4 t (ix3 0 m f) = V c main_call0_v4_4 (ix3 (bat t) m f) := by
  blk_ext [iblk1, idx1 t, bat]
/-- The block of geometry biases is its batch of that array. -/
theorem b5 (c : Dev nD) (t : Fin cfg1.N) (m : Fin 4096) (h : Fin 8) :
    iblk1 V c 5 t (ix3 0 m h) = V c main_call0_v4_5 (ix3 (bat t) m h) := by
  blk_ext [iblk1, idx1 t, bat]
/-- The block of output weights is the whole matrix. -/
theorem b6 (c : Dev nD) (t : Fin cfg1.N) : iblk1 V c 6 t = V c main_arg9 := by
  blk_ext! [iblk1, idx1 t]

/-- The queries, without the batch axis. -/
theorem pay7_at (x : FVec Ideal S1x512x256 .bf16) (r : Fin 512) (a : Fin 256) : k1_pay7 (F := Ideal) x (ix2 r a) = x (ix3 0 r a) := by
  pointwise [k1_pay7]
/-- The keys, without the batch axis. -/
theorem pay8_at (x : FVec Ideal S1x4096x256 .bf16) (m : Fin 4096) (a : Fin 256) : k1_pay8 (F := Ideal) x (ix2 m a) = x (ix3 0 m a) := by
  pointwise [k1_pay8]
/-- The values, without the batch axis. -/
theorem pay9_at (x : FVec Ideal S1x4096x256 .bf16) (m : Fin 4096) (a : Fin 256) : k1_pay9 (F := Ideal) x (ix2 m a) = x (ix3 0 m a) := by
  pointwise [k1_pay9]

/-- The mask of a grid point's block. -/
theorem mask_at (c : Dev nD) (t : Fin cfg1.N) (r : Fin 512) (m : Fin 4096) :
    Mask.mask (k1_pay5 (F := Ideal) (iblk1 V c 3 t) (iblk1 V c 4 t) (iblk1 V c 4 t)) (ix2 r m)
      = maskOf (edist (V c main_call0_v4_3) (V c main_call0_v4_4) (bat t) (row t r)) m := by
  have he : ∀ m, k1_pay5 (F := Ideal) (iblk1 V c 3 t) (iblk1 V c 4 t) (iblk1 V c 4 t) (ix2 r m)
      = edist (V c main_call0_v4_3) (V c main_call0_v4_4) (bat t) (row t r) m := fun m => by
    rw [dist_at]
    unfold edist
    simp only [b3, b4]
  unfold Mask.mask maskOf
  have hf := funext he
  generalize k1_pay5 (F := Ideal) (iblk1 V c 3 t) (iblk1 V c 4 t) (iblk1 V c 4 t) = D at *
  generalize edist (V c main_call0_v4_3) (V c main_call0_v4_4) (bat t) (row t r) = e at *
  rw [← hf]
  rfl

/-- One head's column depends on its arguments only. -/
theorem headAt_congr {q q' : Fin 256 → EReal} {k k' v v' : Fin 4096 → Fin 256 → EReal} {g g' : Fin 4096 → Fin 8 → EReal}
    {msk msk' : Fin 4096 → EReal} (hq : ∀ a, q a = q' a) (hk : ∀ m a, k m a = k' m a) (hv : ∀ m a, v m a = v' m a)
    (hg : ∀ m h, g m h = g' m h) (hm : ∀ m, msk m = msk' m) (h : Fin 8) (j : Fin 32) :
    headAt q k v g msk h j = headAt q' k' v' g' msk' h j := by
  rw [funext hq, funext fun m => funext (hk m), funext fun m => funext (hv m), funext fun m => funext (hg m), funext hm]

/-- Row `r` of the block a grid point stores is row `row t r` of the result. -/
theorem outs_at (c : Dev nD) (t : Fin cfg1.N) (r : Fin 512) (j : Fin 256) : outsAt1 V c t (ix3 0 r j)
    = kout (V c main_call0_v4_0) (V c main_call0_v4_1) (V c main_call0_v4_2) (V c main_call0_v4_3) (V c main_call0_v4_4)
        (V c main_call0_v4_5) (V c main_arg9) (ix3 (bat t) (row t r) j) := by
  rw [outs_eq]
  refine (out_at _ _ _ _ _ r _ j).trans ?_
  rw [b6]
  unfold kout
  refine Finset.sum_congr rfl fun a _ => congrArg (· * V c main_arg9 (ix2 a j)) ?_
  unfold hd
  exact headAt_congr (fun a => (pay7_at _ r a).trans (b0 V c t r a)) (fun m a => (pay8_at _ m a).trans (b1 V c t m a))
    (fun m a => (pay9_at _ m a).trans (b2 V c t m a)) (fun m h => b5 V c t m h) (fun m => mask_at V c t r m) _ _

/-- The kernel's result array. -/
theorem out_arr (c : Dev nD) : (dat1 V c).arrAt 7 cfg1.N
    = kout (V c main_call0_v4_0) (V c main_call0_v4_1) (V c main_call0_v4_2) (V c main_call0_v4_3) (V c main_call0_v4_4)
        (V c main_call0_v4_5) (V c main_arg9) := by
  refine (dat1 V c).arrAt_eq_of_covers 7 _ (by decide +kernel) fun t _ y => ?_
  blk_simp
  rw [after1_7]
  idx_vars y
  obtain rfl : y0 = 0 := Subsingleton.elim _ _
  refine (outs_at V c t y1 y2).trans ?_
  blk_ext [idx1 t, bat, row]

end Cert.KernelIdeal.Att
-- ==== Proof.Host.lean ====
/-
  What the first region finds in its buffers: the host lines before it write the nine rows of the geometry weights into a
  table of sixteen rows and read the bias as one row. With it, the kernel's result array as a function of the arguments.
-/
module

public import proofs.«01_k».proof.Proof.KernelRun
public import proofs.«01_k».proof.Proof.Geom
public import proofs.«01_k».proof.Proof.KArr
public import Idealize.ShloMosaic.Lib.Pipeline.ValueKit

@[expose] public section

set_option maxRecDepth 16384

noncomputable section

namespace Cert.KernelIdeal.Host

open Idealize.ShloMosaic Idealize.ShloMosaic.TcCoe Idealize.ShloMosaic.Tactic Idealize.SL.Sem
open Cert.KernelIdeal Cert.KernelIdeal.Gen

/-- Writing a list of updates to distinct places: a place not on the list keeps its value, the place of a listed update
    holds that update. -/
theorem fold_write {α ι κ : Type} [DecidableEq ι] (g : κ → ι) (hg : Function.Injective g) (upd : κ → α) :
    ∀ (l : List κ) (r : ι → α), l.Nodup →
      (∀ k, k ∉ l → (l.foldl (fun r n => fun i' => if i' = g n then upd n else r i') r) (g k) = r (g k))
      ∧ (∀ k, k ∈ l → (l.foldl (fun r n => fun i' => if i' = g n then upd n else r i') r) (g k) = upd k)
  | [], r, _ => ⟨fun _ _ => rfl, fun _ h => absurd h (by simp)⟩
  | a :: l, r, hl => by
    have hl' := List.nodup_cons.mp hl
    obtain ⟨h1, h2⟩ := fold_write g hg upd l (fun i' => if i' = g a then upd a else r i') hl'.2
    refine ⟨fun k hk => ?_, fun k hk => ?_⟩
    · rw [List.foldl_cons, h1 k fun h => hk (List.mem_cons_of_mem _ h)]
      have hne : g k ≠ g a := fun h => hk (by rw [hg h]; exact List.mem_cons_self)
      exact if_neg hne
    · rw [List.foldl_cons]
      by_cases hm : k ∈ l
      · exact h2 k hm
      · rw [h1 k hm]
        have he : k = a := (List.mem_cons.mp hk).resolve_right hm
        subst he
        exact if_pos rfl

/-- A scatter that replaces, whose updates land at distinct places: the place of update `j` holds update `j`. -/
theorem scatter_at {α : Type} {s si u : Shape} {w : Nat} (d : ScatterDims s si u) (x : s.Idx → α) (idx : IVec si w)
    (upd : u.Idx → α) (g : u.Idx → s.Idx) (hg : ∀ j, d.resultIdx? j idx = some (g j)) (hinj : Function.Injective g)
    (j : u.Idx) : Host.scatter d (fun _ b => b) x idx upd (g j) = upd j := by
  unfold Host.scatter
  have hstep : (fun (r : s.Idx → α) (n : Fin u.numel) =>
      (match d.resultIdx? (u.rowMajor.symm n) idx with
      | some i => fun i' => if i' = i then (fun _ b => b) (r i) (upd (u.rowMajor.symm n)) else r i'
      | none => r : s.Idx → α))
      = fun r n => fun i' => if i' = g (u.rowMajor.symm n) then upd (u.rowMajor.symm n) else r i' := by
    funext r n
    rw [hg]
  have h := (fold_write (fun n => g (u.rowMajor.symm n)) (fun a b h => u.rowMajor.symm.injective (hinj h))
    (fun n => upd (u.rowMajor.symm n)) (List.finRange u.numel) x (List.nodup_finRange _)).2 (u.rowMajor j)
    (List.mem_finRange _)
  rw [Equiv.symm_apply_apply] at h
  rw [← h]
  exact congrArg (fun f => (List.finRange u.numel).foldl f x (g j)) hstep

/-- The weights' row `f`, column `h`, lands at row `f`, column `h` of the wider table. -/
def wide (j : S9x8.Idx) : S16x8.Idx := ix2 ⟨(j 0).val, lt_of_lt_of_le (j 0).isLt (by decide)⟩ (j 1)

/-- Different updates land at different places. -/
theorem wide_inj : Function.Injective wide := fun a b h => by
  have h0 : (wide a 0).val = (wide b 0).val := congrArg Fin.val (congrFun h 0)
  have h1 : wide a 1 = wide b 1 := congrFun h 1
  funext i
  match i with
  | ⟨0, _⟩ => exact Fin.ext (show (a 0).val = (b 0).val from h0)
  | ⟨1, _⟩ => exact h1

/-- Where the updates land: the start is row zero, the window is the whole nine by eight. -/
theorem lands (idx : IVec S1 32) (h0 : ∀ i, idx i = 0#32) (j : S9x8.Idx) :
    scatter_S16x8_S1_S9x8_01_n_0_0.resultIdx? j idx = some (wide j) := by
  have hs : ∀ a, scatter_S16x8_S1_S9x8_01_n_0_0.start j idx a = 0 := fun a => by
    unfold ScatterDims.start
    split
    · rw [h0]; rfl
    · rfl
  have hw0 : scatter_S16x8_S1_S9x8_01_n_0_0.window j 0 = (j 0).val := rfl
  have hw1 : scatter_S16x8_S1_S9x8_01_n_0_0.window j 1 = (j 1).val := rfl
  have hj0 : (j 0).val < 9 := (j 0).isLt
  have hj1 : (j 1).val < 8 := (j 1).isLt
  have hall : ∀ a, 0 ≤ scatter_S16x8_S1_S9x8_01_n_0_0.start j idx a + scatter_S16x8_S1_S9x8_01_n_0_0.window j a
      ∧ scatter_S16x8_S1_S9x8_01_n_0_0.start j idx a + scatter_S16x8_S1_S9x8_01_n_0_0.window j a < S16x8.size a := fun a => by
    rw [hs]
    match a with
    | ⟨0, _⟩ => rw [show scatter_S16x8_S1_S9x8_01_n_0_0.window j ⟨0, _⟩ = (j 0).val from hw0]
                show _ ∧ _ < ((16 : ℕ) : ℤ); omega
    | ⟨1, _⟩ => rw [show scatter_S16x8_S1_S9x8_01_n_0_0.window j ⟨1, _⟩ = (j 1).val from hw1]
                show _ ∧ _ < ((8 : ℕ) : ℤ); omega
  unfold ScatterDims.resultIdx?
  rw [dif_pos hall]
  congr 1
  funext a
  apply Fin.ext
  show (_ + _ : ℤ).toNat = _
  rw [hs]
  match a with
  | ⟨0, _⟩ => rw [show scatter_S16x8_S1_S9x8_01_n_0_0.window j ⟨0, _⟩ = (j 0).val from hw0]
              show _ = (j 0).val; omega
  | ⟨1, _⟩ => rw [show scatter_S16x8_S1_S9x8_01_n_0_0.window j ⟨1, _⟩ = (j 1).val from hw1]
              show _ = (j 1).val; omega

variable (m : (ℓ : Loc nD τ sig) → Buf (Elt Ideal) ℓ) (ρ : Dev nD → PrngReg)

/-- Row `f` of the wider table is row `f` of the geometry weights. -/
theorem table_at (c : Dev nD) (f : Fin 9) (h : Fin 8) :
    (V1 m ρ c main_call0_v2 : S16x8.Idx → EReal) (ix2 ⟨f.val, by omega⟩ h)
      = (m ((c : Thread nD τ).loc main_arg10) : S9x8.Idx → EReal) (ix2 f h) := by
  have e : (V1 m ρ c main_call0_v2 : S16x8.Idx → EReal)
      = Host.scatter scatter_S16x8_S1_S9x8_01_n_0_0 (fun _ b => b)
          (broadcastInDim S16x8 ![] bcast_S_S16x8 (constant (F := Ideal) S_ .f32 0x00000000#32))
          (broadcastInDim S1 ![] bcast_S_S1 (constantI S_ 32 0#32))
          (m ((c : Thread nD τ).loc main_arg10)) := by
    unfold_abbrev_sides
    after_results
    rfl
  rw [e]
  exact scatter_at _ _ _ _ wide (lands _ fun _ => rfl) wide_inj (ix2 f h)

/-- The bias row. -/
theorem bias_at (c : Dev nD) (h : Fin 8) :
    (V1 m ρ c main_call0_v3 : S1x8.Idx → EReal) (ix2 0 h)
      = (m ((c : Thread nD τ).loc main_arg11) : S8.Idx → EReal) (ix1 h) := by
  have e : (V1 m ρ c main_call0_v3 : S1x8.Idx → EReal)
      = shapeCast S1x8 (m ((c : Thread nD τ).loc main_arg11) : S8.Idx → EReal) shapeCasts_S8_S1x8 := by
    unfold_abbrev_sides
    after_results
    rfl
  rw [e]
  pointwise

/-- THE KERNEL'S RESULT: what the second region leaves, from the arguments at launch and the two tables the host lines make. -/
theorem result (c : Dev nD) : (dat1 (V2 m ρ) c).arrAt 7 cfg1.N
    = Att.kout (Proj.proj (m ((c : Thread nD τ).loc main_arg0)) (m ((c : Thread nD τ).loc main_arg6)))
        (Proj.proj (m ((c : Thread nD τ).loc main_arg0)) (m ((c : Thread nD τ).loc main_arg7)))
        (Proj.proj (m ((c : Thread nD τ).loc main_arg0)) (m ((c : Thread nD τ).loc main_arg8)))
        (Proj.rowop (m ((c : Thread nD τ).loc main_arg1)) (m ((c : Thread nD τ).loc main_arg4)) (m ((c : Thread nD τ).loc main_arg2))
          (m ((c : Thread nD τ).loc main_arg3)) (m ((c : Thread nD τ).loc main_arg5)))
        (Proj.colop (m ((c : Thread nD τ).loc main_arg1)) (m ((c : Thread nD τ).loc main_arg4)) (m ((c : Thread nD τ).loc main_arg2))
          (m ((c : Thread nD τ).loc main_arg3)) (m ((c : Thread nD τ).loc main_arg5)))
        (Proj.gbias (m ((c : Thread nD τ).loc main_arg1)) (m ((c : Thread nD τ).loc main_arg4)) (m ((c : Thread nD τ).loc main_arg2))
          (m ((c : Thread nD τ).loc main_arg3)) (m ((c : Thread nD τ).loc main_arg5)) (V1 m ρ c main_call0_v2) (V1 m ρ c main_call0_v3))
        (m ((c : Thread nD τ).loc main_arg9)) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  have a4 : V1 m ρ c main_arg4 = m ((c : Thread nD τ).loc main_arg4) := W1_args m ρ c main_arg4 (by decide)
  have a5 : V1 m ρ c main_arg5 = m ((c : Thread nD τ).loc main_arg5) := W1_args m ρ c main_arg5 (by decide)
  have a6 : V1 m ρ c main_arg6 = m ((c : Thread nD τ).loc main_arg6) := W1_args m ρ c main_arg6 (by decide)
  have a7 : V1 m ρ c main_arg7 = m ((c : Thread nD τ).loc main_arg7) := W1_args m ρ c main_arg7 (by decide)
  have a8 : V1 m ρ c main_arg8 = m ((c : Thread nD τ).loc main_arg8) := W1_args m ρ c main_arg8 (by decide)
  have a9 : V2 m ρ c main_arg9 = m ((c : Thread nD τ).loc main_arg9) := W2_args m ρ c main_arg9 (by decide)
  rw [← a0, ← a1, ← a2, ← a3, ← a4, ← a5, ← a6, ← a7, ← a8, ← a9]
  have e0 : V2 m ρ c main_call0_v4_0 = Proj.proj (V1 m ρ c main_arg0) (V1 m ρ c main_arg6) :=
    (W2_arr m ρ c 11).trans (Proj.q_arr (V1 m ρ) c)
  have e1 : V2 m ρ c main_call0_v4_1 = Proj.proj (V1 m ρ c main_arg0) (V1 m ρ c main_arg7) :=
    (W2_arr m ρ c 12).trans (Proj.k_arr (V1 m ρ) c)
  have e2 : V2 m ρ c main_call0_v4_2 = Proj.proj (V1 m ρ c main_arg0) (V1 m ρ c main_arg8) :=
    (W2_arr m ρ c 13).trans (Proj.v_arr (V1 m ρ) c)
  have e3 : V2 m ρ c main_call0_v4_3 = Proj.rowop (V1 m ρ c main_arg1) (V1 m ρ c main_arg4) (V1 m ρ c main_arg2)
      (V1 m ρ c main_arg3) (V1 m ρ c main_arg5) :=
    (W2_arr m ρ c 14).trans (Proj.rowop_arr (V1 m ρ) c)
  have e4 : V2 m ρ c main_call0_v4_4 = Proj.colop (V1 m ρ c main_arg1) (V1 m ρ c main_arg4) (V1 m ρ c main_arg2)
      (V1 m ρ c main_arg3) (V1 m ρ c main_arg5) :=
    (W2_arr m ρ c 15).trans (Proj.colop_arr (V1 m ρ) c)
  have e5 : V2 m ρ c main_call0_v4_5 = Proj.gbias (V1 m ρ c main_arg1) (V1 m ρ c main_arg4) (V1 m ρ c main_arg2)
      (V1 m ρ c main_arg3) (V1 m ρ c main_arg5) (V1 m ρ c main_call0_v2) (V1 m ρ c main_call0_v3) :=
    (W2_arr m ρ c 16).trans (Proj.gbias_arr (V1 m ρ) c)
  rw [Att.out_arr, e0, e1, e2, e3, e4, e5]

end Cert.KernelIdeal.Host
-- ==== Proof.Rank.lean ====
/-
  The host's top-k of a row: the positions of the row from the greatest value down, and what the two results of the
  operation hold.
-/
module

public import Idealize.ShloMosaic.Lib.Pointwise
public import Idealize.ShloMosaic.Lib.SortFacts

@[expose] public section

noncomputable section

namespace Cert.Near

open Idealize.ShloMosaic

/-- "Greater", as the sort compares two positions of a row. -/
def before {n : ℕ} (x : Fin n → EReal) (k k' : Fin n) : Bool := Ideal.cmpTotal .gt (x k) (x k') == 1#1

/-- The position of the `j`-th greatest value of a row. -/
def rank {n : ℕ} (x : Fin n → EReal) : Fin n → Fin n := sortedFrom (before x)

/-- The order of the ranking compares values. -/
theorem before_iff {n : ℕ} (x : Fin n → EReal) (k k' : Fin n) : before x k k' = decide (x k' < x k) := by
  unfold before Ideal.cmpTotal Ideal.cmp CmpDirection.ordered
  by_cases h : x k' < x k <;> simp [h]

/-- Every position is the position of some rank. -/
theorem rank_surj {n : ℕ} (x : Fin n → EReal) : Function.Surjective (rank x) := sortedFrom_surjective _

/-- Different ranks have different positions. -/
theorem rank_inj {n : ℕ} (x : Fin n → EReal) : Function.Injective (rank x) := sortedFrom_injective _

/-- A later rank has no greater value. -/
theorem rank_le {n : ℕ} (x : Fin n → EReal) (i j : Fin n) (h : i < j) : x (rank x j) ≤ x (rank x i) := by
  have := sortedFrom_noInversion (before x) (before x)
    (fun a b h => by rw [before_iff, decide_eq_true_eq] at h; rw [before_iff, decide_eq_false_iff_not]; exact not_lt.mpr h.le)
    (fun _ _ h => h)
    (fun a b c h h' => by
      rw [before_iff, decide_eq_false_iff_not, not_lt] at *
      exact h.trans h') i j h
  rw [before_iff, decide_eq_false_iff_not, not_lt] at this
  exact this

/-- Changing the last coordinate of a rank-3 index. -/
theorem along_last {B N M : ℕ} (b : Fin B) (n : Fin N) (j k : Fin M) :
    (ix3 b n j : (⟨3, ![B, N, M]⟩ : Shape).Idx).along 2 k = ix3 b n k := by
  funext a
  match a with
  | ⟨0, _⟩ => rfl
  | ⟨1, _⟩ => rfl
  | ⟨2, _⟩ => rfl

/-- The sliced index of an entry of the result. -/
theorem slice_last {B N M K : ℕ} (hK : K ≤ M) {α : Type} (y : (⟨3, ![B, N, M]⟩ : Shape).Idx → α)
    (h : (⟨3, ![B, N, M]⟩ : Shape).Slices (fun _ => 0) ⟨3, ![B, N, K]⟩) (b : Fin B) (n : Fin N) (j : Fin K) :
    extractStridedSlice ⟨3, ![B, N, K]⟩ (fun _ => 0) y h (ix3 b n j) = y (ix3 b n (j.castLE hK)) := by
  unfold extractStridedSlice
  refine congrArg y (funext fun a => Fin.ext ?_)
  match a with
  | ⟨0, _⟩ => exact Nat.zero_add _
  | ⟨1, _⟩ => exact Nat.zero_add _
  | ⟨2, _⟩ => exact Nat.zero_add _

section
variable {B N M K : ℕ} (hK : K ≤ M) (x : (⟨3, ![B, N, M]⟩ : Shape).Idx → EReal)
  (h : (⟨3, ![B, N, M]⟩ : Shape).Slices (fun _ => 0) ⟨3, ![B, N, K]⟩) (b : Fin B) (n : Fin N) (j : Fin K)

/-- The values of top-k: the value at the rank's position. -/
theorem topK_values : (Host.topK ⟨3, ![B, N, K]⟩ 2 (FloatOps.cmpfTotal (F := Ideal) (φ := .f32) .gt) x h).1 (ix3 b n j)
    = x (ix3 b n (rank (fun m => x (ix3 b n m)) (j.castLE hK))) := by
  unfold Host.topK
  dsimp only
  rw [slice_last hK]
  unfold Host.sort2
  rw [dif_pos (by decide : (2 : ℕ) < 3)]
  refine (congrArg x (along_last b n _ _)).trans ?_
  refine congrArg (fun k => x (ix3 b n k)) ?_
  unfold rank
  refine congrArg (fun f => sortedFrom f (j.castLE hK)) (funext fun k => funext fun k' => ?_)
  exact congrArg₂ (fun u v => Ideal.cmpTotal .gt u v == 1#1) (congrArg x (along_last b n _ k)) (congrArg x (along_last b n _ k'))

/-- The indices of top-k: the rank's position, as a 32-bit word. -/
theorem topK_indices : (Host.topK ⟨3, ![B, N, K]⟩ 2 (FloatOps.cmpfTotal (F := Ideal) (φ := .f32) .gt) x h).2 (ix3 b n j)
    = BitVec.ofNat 32 (rank (fun m => x (ix3 b n m)) (j.castLE hK)).val := by
  unfold Host.topK
  dsimp only
  rw [slice_last hK]
  unfold Host.sort2
  rw [dif_pos (by decide : (2 : ℕ) < 3)]
  dsimp only
  rw [dif_pos (by decide : (2 : ℕ) < 3)]
  unfold iotaInDim
  refine congrArg (fun k : Fin M => BitVec.ofNat 32 k.val) ?_
  refine (congrFun (along_last b n _ _) 2).trans ?_
  show _ = rank _ _
  unfold rank
  refine congrArg (fun f => sortedFrom f (j.castLE hK)) (funext fun k => funext fun k' => ?_)
  exact congrArg₂ (fun u v => Ideal.cmpTotal .gt u v == 1#1) (congrArg x (along_last b n _ k)) (congrArg x (along_last b n _ k'))

end

end Cert.Near
-- ==== Proof.Near.lean ====
/-
  What the precondition says, in plain terms: the layer input and the weights that the logits read are real numbers, and in
  every row of squared distances the seventeen smallest are strictly increasing. The geometry is then real too.
-/
module

public import proofs.«01_k».proof.Proof.Gen.Pre_distinct_neighbours
public import proofs.«01_k».proof.Proof.Rank
public import Idealize.ShloMosaic.Lib.Pointwise
public import Idealize.ShloMosaic.Lib.Pipeline.ValueKit

@[expose] public section

set_option maxRecDepth 16384

noncomputable section

namespace Cert.Near.Pre

open Idealize.ShloMosaic Idealize.ShloMosaic.TcCoe Idealize.SL.Sem
open Cert.Pre_distinct_neighbours Cert.Pre_distinct_neighbours.Gen

/-- An extended real whose absolute value is below `+∞` is a real number. -/
theorem real_of_abs (x : EReal) (h : max x (-x) < ⊤) : ∃ r : ℝ, x = (r : EReal) := by
  induction x using EReal.rec with
  | bot => simp at h
  | top => simp at h
  | coe r => exact ⟨r, rfl⟩

variable (x0 : FVec Ideal S4x4096x256 .f32) (x1 : FVec Ideal S4x4096x3 .f32) (x2 x3 : FVec Ideal S4x4096x1 .f32)
  (x4 : FVec Ideal S4x4096x3 .f32) (x5 : FVec Ideal S4x4096x1 .f32) (x6 x7 x8 x9 : FVec Ideal S256x256 .f32)
  (x10 : FVec Ideal S9x8 .f32) (x11 : FVec Ideal S8 .f32)

/-- The nine geometry features side by side. -/
def geoCat : FVec Ideal S4x4096x9 .f32 :=
  concatenate S4x4096x9 2 [⟨S4x4096x3, x1⟩, ⟨S4x4096x3, x4⟩, ⟨S4x4096x1, x2⟩, ⟨S4x4096x1, x3⟩, ⟨S4x4096x1, x5⟩]
    concatenates_S4x4096x3_S4x4096x3_S4x4096x1_S4x4096x1_S4x4096x1_S4x4096x9_d2

/-- The differences of two points' features. -/
def diff (g : FVec Ideal S4x4096x9 .f32) : FVec Ideal S4x4096x4096x9 .f32 :=
  subf (broadcastInDim S4x4096x4096x9 ![0, 1, 2, 3] bcast_S4x4096x1x9_S4x4096x4096x9_0_1_2_3
      (broadcastInDim S4x4096x1x9 ![0, 1, 3] bcast_S4x4096x9_S4x4096x1x9_0_1_3 g))
    (broadcastInDim S4x4096x4096x9 ![0, 1, 2, 3] bcast_S4x1x4096x9_S4x4096x4096x9_0_1_2_3
      (broadcastInDim S4x1x4096x9 ![0, 2, 3] bcast_S4x4096x9_S4x1x4096x9_0_2_3 g))

/-- Minus the squared distances, as the precondition computes them. -/
def negGap (g : FVec Ideal S4x4096x9 .f32) : FVec Ideal S4x4096x4096 .f32 :=
  Host.negf (Host.reduceAdd (mulf (diff g) (diff g)) (constant S_ .f32 0x00000000#32)
    reducesTo_S4x4096x4096x9_S4x4096x4096_d3 h_S_)

/-- One difference of two points' features. -/
theorem diff_at (g : FVec Ideal S4x4096x9 .f32) (b : Fin 4) (n m : Fin 4096) (f : Fin 9) :
    diff g (ix4 b n m f) = g (ix3 b n f) - g (ix3 b m f) := by
  pointwise [diff]

/-- Minus the squared distance of points `n` and `m`. -/
theorem negGap_at (g : FVec Ideal S4x4096x9 .f32) (b : Fin 4) (n m : Fin 4096) :
    negGap g (ix3 b n m)
      = -(Ideal.ofBits .f32 0x00000000#32
          + ∑ f : Fin 9, (g (ix3 b n f) - g (ix3 b m f)) * (g (ix3 b n f) - g (ix3 b m f))) := by
  pointwise [negGap, diff]

/-- The seventeen largest entries of each row, as the precondition takes them. -/
def best (g : FVec Ideal S4x4096x9 .f32) : FVec Ideal S4x4096x17 .f32 :=
  (Host.topK S4x4096x17 2 (FloatOps.cmpfTotal .gt) (negGap g) sliceFits_S4x4096x4096_S4x4096x17).1

/-- The `j`-th entry is the one that ranks `j`-th in its row. -/
theorem best_at (g : FVec Ideal S4x4096x9 .f32) (b : Fin 4) (n : Fin 4096) (j : Fin 17) :
    best g (ix3 b n j) = negGap g (ix3 b n (rank (fun m => negGap g (ix3 b n m)) ⟨j.val, by omega⟩)) :=
  topK_values (by decide) (negGap g) _ b n j

/-- A square is not negative. -/
theorem sq_nonneg (z : EReal) : 0 ≤ z * z := by
  induction z using EReal.rec with
  | bot => simp
  | top => simp
  | coe r => rw [← EReal.coe_mul]; exact_mod_cast mul_self_nonneg r

/-- The square of an infinite number's difference to anything is infinite. -/
theorem sq_inf (x y : EReal) (h : ¬ ∃ r : ℝ, x = (r : EReal)) : (x - y) * (x - y) = ⊤ := by
  induction x using EReal.rec with
  | bot => simp [sub_eq_add_neg]
  | top => induction y using EReal.rec with
    | bot => simp [sub_eq_add_neg]
    | top => simp [sub_eq_add_neg]
    | coe r => simp [sub_eq_add_neg]
  | coe r => exact absurd ⟨r, rfl⟩ h

/-- A point with an infinite feature is infinitely far from every point. -/
theorem negGap_inf (g : FVec Ideal S4x4096x9 .f32) (b : Fin 4) (n m : Fin 4096) (f : Fin 9)
    (h : ¬ ∃ r : ℝ, g (ix3 b n f) = (r : EReal)) : negGap g (ix3 b n m) = ⊥ := by
  have hz : Ideal.ofBits .f32 0x00000000#32 = 0 := by simp [Ideal.ofBits, Ideal.ieee]
  have hle : (⊤ : EReal) ≤ ∑ f : Fin 9, (g (ix3 b n f) - g (ix3 b m f)) * (g (ix3 b n f) - g (ix3 b m f)) := by
    rw [← sq_inf (g (ix3 b n f)) (g (ix3 b m f)) h]
    exact Finset.single_le_sum (f := fun f : Fin 9 => (g (ix3 b n f) - g (ix3 b m f)) * (g (ix3 b n f) - g (ix3 b m f)))
      (fun i _ => sq_nonneg _) (Finset.mem_univ f)
  rw [negGap_at, hz, zero_add, top_le_iff.mp hle, EReal.neg_top]

/-- What the flags say when they are all one. -/
structure Says : Prop where
  x : ∀ j, ∃ r : ℝ, x0 j = (r : EReal)
  wq : ∀ j, ∃ r : ℝ, x6 j = (r : EReal)
  wk : ∀ j, ∃ r : ℝ, x7 j = (r : EReal)
  gw : ∀ j, ∃ r : ℝ, x10 j = (r : EReal)
  gb : ∀ j, ∃ r : ℝ, x11 j = (r : EReal)
  apart : ∀ (b : Fin 4) (n : Fin 4096) (i : Fin 16),
    negGap (geoCat x1 x2 x3 x4 x5) (ix3 b n
        (rank (fun m => negGap (geoCat x1 x2 x3 x4 x5) (ix3 b n m)) ⟨i.val + 1, by omega⟩))
      < negGap (geoCat x1 x2 x3 x4 x5) (ix3 b n
        (rank (fun m => negGap (geoCat x1 x2 x3 x4 x5) (ix3 b n m)) ⟨i.val, by omega⟩))

/-- A finiteness flag that is one says the entry is real. -/
theorem real_of_flag {s : Shape} (X : FVec Ideal s .f32) (hb : S_.BroadcastsInDim s ![])
    (h : cmpf .olt (Host.absf X) (broadcastInDim s ![] hb (constant S_ .f32 0x7F800000#32)) = fun _ => 1#1) (j : s.Idx) :
    ∃ r : ℝ, X j = (r : EReal) := by
  have h1 := congrFun h j
  have h2 : BitVec.ofBool (decide (max (X j) (-X j) < Ideal.ofBits .f32 0x7F800000#32)) = 1#1 := h1
  apply real_of_abs
  have inf : Ideal.ofBits .f32 0x7F800000#32 = ⊤ := by simp [Ideal.ofBits, Ideal.ieee]
  rw [inf] at h2
  by_contra hn
  rw [decide_eq_false hn] at h2
  exact absurd h2 (by decide)

/-- The precondition's flags, all one, say what `Says` states. -/
theorem says_of_flags
    (h0 : (fn (F := Ideal) x0 x1 x2 x3 x4 x5 x6 x7 x8 x9 x10 x11).1 = fun _ => 1#1)
    (h2 : (fn (F := Ideal) x0 x1 x2 x3 x4 x5 x6 x7 x8 x9 x10 x11).2.1 = fun _ => 1#1)
    (h3 : (fn (F := Ideal) x0 x1 x2 x3 x4 x5 x6 x7 x8 x9 x10 x11).2.2.1 = fun _ => 1#1)
    (h4 : (fn (F := Ideal) x0 x1 x2 x3 x4 x5 x6 x7 x8 x9 x10 x11).2.2.2.1 = fun _ => 1#1)
    (h5 : (fn (F := Ideal) x0 x1 x2 x3 x4 x5 x6 x7 x8 x9 x10 x11).2.2.2.2.1 = fun _ => 1#1)
    (h6 : (fn (F := Ideal) x0 x1 x2 x3 x4 x5 x6 x7 x8 x9 x10 x11).2.2.2.2.2 = fun _ => 1#1) :
    Says x0 x1 x2 x3 x4 x5 x6 x7 x10 x11 where
  x := real_of_flag x0 _ h0
  wq := real_of_flag x6 _ h2
  wk := real_of_flag x7 _ h3
  gw := real_of_flag x10 _ h4
  gb := real_of_flag x11 _ h5
  apart := fun b n i => by
    have h := congrFun (show cmpf .ogt (extractStridedSlice S4x4096x16 ![0, 0, 0] (best (geoCat x1 x2 x3 x4 x5)) slices_S4x4096x17_S4x4096x16_0_0_0)
      (extractStridedSlice S4x4096x16 ![0, 0, 1] (best (geoCat x1 x2 x3 x4 x5)) slices_S4x4096x17_S4x4096x16_0_0_1) = fun _ => 1#1 from h6) (ix3 b n i)
    have e0 : extractStridedSlice S4x4096x16 ![0, 0, 0] (best (geoCat x1 x2 x3 x4 x5)) slices_S4x4096x17_S4x4096x16_0_0_0 (ix3 b n i)
        = best (geoCat x1 x2 x3 x4 x5) (ix3 b n ⟨i.val, by omega⟩) := by pointwise
    have e1 : extractStridedSlice S4x4096x16 ![0, 0, 1] (best (geoCat x1 x2 x3 x4 x5)) slices_S4x4096x17_S4x4096x16_0_0_1 (ix3 b n i)
        = best (geoCat x1 x2 x3 x4 x5) (ix3 b n ⟨i.val + 1, by omega⟩) := by
      pointwise
      exact congrArg (fun q => best (geoCat x1 x2 x3 x4 x5) (ix3 b n q)) (Fin.ext (Nat.add_comm 1 i.val))
    have h' : BitVec.ofBool (decide (best (geoCat x1 x2 x3 x4 x5) (ix3 b n ⟨i.val + 1, by omega⟩)
        < best (geoCat x1 x2 x3 x4 x5) (ix3 b n ⟨i.val, by omega⟩))) = 1#1 := by
      rw [← e0, ← e1]; exact h
    rw [best_at, best_at] at h'
    by_contra hn
    rw [decide_eq_false hn] at h'
    exact absurd h' (by decide)

variable {x0 x1 x2 x3 x4 x5 x6 x7 x10 x11}

/-- The features are real numbers: a point with an infinite one would be equally far from all points. -/
theorem Says.geo (hP : Says x0 x1 x2 x3 x4 x5 x6 x7 x10 x11) (b : Fin 4) (n : Fin 4096) (f : Fin 9) :
    ∃ r : ℝ, geoCat x1 x2 x3 x4 x5 (ix3 b n f) = (r : EReal) := by
  by_contra h
  have ha := hP.apart b n 0
  rw [negGap_inf _ b n _ f h, negGap_inf _ b n _ f h] at ha
  exact absurd ha (lt_irrefl _)

end Cert.Near.Pre
-- ==== Proof.Gather.lean ====
/-
  The gather of whole rows, batch by batch, read at an index: the row is the one the start index names.
-/
module

public import Idealize.ShloMosaic.Lib.Pointwise
public import Idealize.ShloMosaic.Lib.ValueIdx

@[expose] public section

noncomputable section

namespace Cert.Near

open Idealize.ShloMosaic

section
variable {α : Type} {B N K C w : ℕ}
  (wf : GatherDims.WF ⟨3, ![B, N, C]⟩ ⟨4, ![B, N, K, 1]⟩ ⟨4, ![B, N, K, C]⟩ [3] [1] [0] [1] [0] 3 ![1, 1, C])

/-- The gather's dimension numbers: axis 0 a batch, axis 1 chosen by the start index, axis 2 taken whole. -/
abbrev rowsDims : GatherDims ⟨3, ![B, N, C]⟩ ⟨4, ![B, N, K, 1]⟩ ⟨4, ![B, N, K, C]⟩ where
  offsetDims := [3]
  collapsedSliceDims := [1]
  operandBatchingDims := [0]
  startIndicesBatchingDims := [0]
  startIndexMap := [1]
  indexVectorDim := 3
  sliceSizes := ![1, 1, C]
  wf := wf

/-- Entry `(b, n, k, c)` of the gather is entry `c` of the row of batch `b` that the start index at `(b, n, k)` names. -/
theorem gather_rows (x : (⟨3, ![B, N, C]⟩ : Shape).Idx → α) (idx : IVec ⟨4, ![B, N, K, 1]⟩ w) (b : Fin B) (n : Fin N)
    (k : Fin K) (c : Fin C) (m : Fin N) (hm : (idx (ix4 b n k 0)).toInt.toNat = m.val) :
    Host.gather (rowsDims wf) x idx (ix4 b n k c) = x (ix3 b m c) := by
  unfold Host.gather
  refine congrArg x (funext fun a => Fin.ext ?_)
  show (rowsDims wf).start (ix4 b n k c) idx a + (rowsDims wf).batchCoord (ix4 b n k c) a + (rowsDims wf).offCoord (ix4 b n k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims wf).startIndexMap from List.mem_singleton.mpr rfl)]
    have hsi : (rowsDims wf).siIdx (ix4 b n k c) ⟨List.idxOf (1 : Fin 3) (rowsDims wf).startIndexMap,
        List.idxOf_lt_length_iff.2 (List.mem_singleton.mpr rfl)⟩ = ix4 b n k 0 := by
      funext d; refine Fin.ext ?_
      match d with
      | ⟨0, _⟩ => rfl
      | ⟨1, _⟩ => rfl
      | ⟨2, _⟩ => rfl
      | ⟨3, _⟩ => rfl
    rw [hsi, hm]
    show min m.val (N - 1) = m.val
    have := m.isLt
    omega
  · rw [GatherDims.batchCoord_eq_zero _ _ _ (fun h => by simp at h)]
    unfold GatherDims.start
    rw [dif_neg (fun h => by simp at h)]
    simp only [Nat.zero_add, Nat.add_zero]
    unfold GatherDims.offCoord
    rw [dif_pos ((GatherDims.mem_sKept _ _).mpr ⟨fun h => by simp at h, fun h => by simp at h⟩)]
    rfl

end

end Cert.Near
-- ==== Proof.RefA.lean ====
/-
  The reference, first half: the positions of the sixteen nearest points, and the rows gathered from them.
-/
module

public import proofs.«01_k».proof.Proof.Gen.ReferenceIdeal.Read
public import proofs.«01_k».proof.Proof.Gather
public import proofs.«01_k».proof.Proof.Rank

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Read
open Cert.Near

/-- A projection of the points' features: row `n` of batch `b` times column `c` of the weights. -/
def lin (X : FVec Ideal S4x4096x256 .f32) (W : FVec Ideal S256x256 .f32) (b : Fin 4) (n : Fin 4096) (c : Fin 256) : EReal :=
  ∑ k : Fin 256, X (ix3 b n k) * W (ix2 k c)

variable (x0 : FVec Ideal S4x4096x256 .f32) (x1 : FVec Ideal S4x4096x3 .f32) (x2 x3 : FVec Ideal S4x4096x1 .f32)
  (x4 : FVec Ideal S4x4096x3 .f32) (x5 : FVec Ideal S4x4096x1 .f32) (x6 x7 x8 x9 : FVec Ideal S256x256 .f32)
  (x10 : FVec Ideal S9x8 .f32) (x11 : FVec Ideal S8 .f32)

/-- The negated squared distances from point `n` of batch `b`. -/
def negd (b : Fin 4) (n m : Fin 4096) : EReal := val_main_v12 (F := Ideal) x1 x2 x3 x4 x5 (ix3 b n m)

/-- The `j`-th nearest point. -/
def pos (b : Fin 4) (n : Fin 4096) (j : Fin 16) : Fin 4096 := rank (negd x1 x2 x3 x4 x5 b n) ⟨j.val, by omega⟩

/-- The `j`-th index of a row is the `j`-th nearest point. -/
theorem indices_at (b : Fin 4) (n : Fin 4096) (j : Fin 16) :
    val_main_indices (F := Ideal) x1 x2 x3 x4 x5 (ix3 b n j) = BitVec.ofNat 32 (pos x1 x2 x3 x4 x5 b n j).val := by
  unfold val_main_indices
  exact topK_indices (by omega) (val_main_v12 (F := Ideal) x1 x2 x3 x4 x5) _ b n j

/-- A position is not negative as a signed word, so the wrap of negative indices leaves it. -/
theorem wrap (m : Fin 4096) (a : BitVec 32) : Scalar.select (IntOp.cmpi .slt (BitVec.ofNat 32 m.val) 0#32) a (BitVec.ofNat 32 m.val)
    = BitVec.ofNat 32 m.val := by
  have h : ¬ (BitVec.ofNat 32 m.val).toInt < 0 := by
    rw [BitVec.toInt_ofNat']
    have := m.isLt
    rw [Int.bmod_def]
    split <;> omega
  have : IntOp.cmpi .slt (BitVec.ofNat 32 m.val) 0#32 = 0#1 := by
    have h' : BitVec.slt (BitVec.ofNat 32 m.val) 0#32 = false := by
      rw [BitVec.slt, decide_eq_false_iff_not]
      simpa using h
    show BitVec.ofBool (BitVec.slt (BitVec.ofNat 32 m.val) 0#32) = 0#1
    rw [h']
    rfl
  rw [this]
  rfl

/-- A point's number, stored in 32 bits and read back. -/
theorem toNat_pos (m : Fin 4096) : (BitVec.ofNat 32 m.val).toInt.toNat = m.val := by
  rw [BitVec.toInt_ofNat']
  have := m.isLt
  rw [Int.bmod_def]
  split <;> omega

/-- Where the broadcast of the indices reads. -/
theorem idx21 (b : Fin 4) (n : Fin 4096) (j : Fin 16) : idx_main_v21 (ix4 b n j 0) = ix3 b n j := by
  funext a; match a with | ⟨0, _⟩ => rfl | ⟨1, _⟩ => rfl | ⟨2, _⟩ => rfl
/-- Where the broadcast of the indices reads. -/
theorem idx28 (b : Fin 4) (n : Fin 4096) (j : Fin 16) : idx_main_v28 (ix4 b n j 0) = ix3 b n j := by
  funext a; match a with | ⟨0, _⟩ => rfl | ⟨1, _⟩ => rfl | ⟨2, _⟩ => rfl
/-- Where the broadcast of the indices reads. -/
theorem idx39 (b : Fin 4) (n : Fin 4096) (j : Fin 16) : idx_main_v39 (ix4 b n j 0) = ix3 b n j := by
  funext a; match a with | ⟨0, _⟩ => rfl | ⟨1, _⟩ => rfl | ⟨2, _⟩ => rfl

/-- The row number that the gather uses is the nearest point's. -/
theorem v21_at (b : Fin 4) (n : Fin 4096) (j : Fin 16) :
    val_main_v21 (F := Ideal) x1 x2 x3 x4 x5 (ix4 b n j 0) = BitVec.ofNat 32 (pos x1 x2 x3 x4 x5 b n j).val := by
  rw [val_main_v21_apply, idx21, val_main_v20_apply, val_main_v17_apply, val_main_v16_apply, val_main_c_apply, indices_at]
  exact wrap _ _
/-- The row number that the gather uses is the nearest point's. -/
theorem v28_at (b : Fin 4) (n : Fin 4096) (j : Fin 16) :
    val_main_v28 (F := Ideal) x1 x2 x3 x4 x5 (ix4 b n j 0) = BitVec.ofNat 32 (pos x1 x2 x3 x4 x5 b n j).val := by
  rw [val_main_v28_apply, idx28, val_main_v27_apply, val_main_v24_apply, val_main_v23_apply, val_main_c_2_apply, indices_at]
  exact wrap _ _
/-- The row number that the gather uses is the nearest point's. -/
theorem v39_at (b : Fin 4) (n : Fin 4096) (j : Fin 16) :
    val_main_v39 (F := Ideal) x1 x2 x3 x4 x5 (ix4 b n j 0) = BitVec.ofNat 32 (pos x1 x2 x3 x4 x5 b n j).val := by
  rw [val_main_v39_apply, idx39, val_main_v38_apply, val_main_v35_apply, val_main_v34_apply, val_main_c_4_apply, indices_at]
  exact wrap _ _

/-- The query projection. -/
theorem v13_at (b : Fin 4) (n : Fin 4096) (c : Fin 256) : val_main_v13 (F := Ideal) x0 x6 (ix3 b n c) = lin x0 x6 b n c := by
  rw [val_main_v13_apply]
  refine Finset.sum_congr rfl fun k _ => ?_
  exact congrArg₂ (fun u v => x0 u * x6 v) (by funext a; match a with | ⟨0, _⟩ => rfl | ⟨1, _⟩ => rfl | ⟨2, _⟩ => rfl)
    (by funext a; match a with | ⟨0, _⟩ => rfl | ⟨1, _⟩ => rfl)
/-- The key projection. -/
theorem v14_at (b : Fin 4) (n : Fin 4096) (c : Fin 256) : val_main_v14 (F := Ideal) x0 x7 (ix3 b n c) = lin x0 x7 b n c := by
  rw [val_main_v14_apply]
  refine Finset.sum_congr rfl fun k _ => ?_
  exact congrArg₂ (fun u v => x0 u * x7 v) (by funext a; match a with | ⟨0, _⟩ => rfl | ⟨1, _⟩ => rfl | ⟨2, _⟩ => rfl)
    (by funext a; match a with | ⟨0, _⟩ => rfl | ⟨1, _⟩ => rfl)
/-- The value projection. -/
theorem v15_at (b : Fin 4) (n : Fin 4096) (c : Fin 256) : val_main_v15 (F := Ideal) x0 x8 (ix3 b n c) = lin x0 x8 b n c := by
  rw [val_main_v15_apply]
  refine Finset.sum_congr rfl fun k _ => ?_
  exact congrArg₂ (fun u v => x0 u * x8 v) (by funext a; match a with | ⟨0, _⟩ => rfl | ⟨1, _⟩ => rfl | ⟨2, _⟩ => rfl)
    (by funext a; match a with | ⟨0, _⟩ => rfl | ⟨1, _⟩ => rfl)

/-- The gathered keys are the projected rows of the nearest points. -/
theorem v22_at (b : Fin 4) (n : Fin 4096) (j : Fin 16) (c : Fin 256) :
    val_main_v22 (F := Ideal) x0 x1 x2 x3 x4 x5 x7 (ix4 b n j c) = lin x0 x7 b (pos x1 x2 x3 x4 x5 b n j) c := by
  unfold val_main_v22
  refine Eq.trans (gather_rows _ _ _ b n j c (pos x1 x2 x3 x4 x5 b n j) ?_) (v14_at x0 x7 b _ c)
  rw [v21_at, toNat_pos]

/-- The gathered values likewise. -/
theorem v29_at (b : Fin 4) (n : Fin 4096) (j : Fin 16) (c : Fin 256) :
    val_main_v29 (F := Ideal) x0 x1 x2 x3 x4 x5 x8 (ix4 b n j c) = lin x0 x8 b (pos x1 x2 x3 x4 x5 b n j) c := by
  unfold val_main_v29
  refine Eq.trans (gather_rows _ _ _ b n j c (pos x1 x2 x3 x4 x5 b n j) ?_) (v15_at x0 x8 b _ c)
  rw [v28_at, toNat_pos]

/-- The gathered biases likewise. -/
theorem v40_at (b : Fin 4) (n : Fin 4096) (j : Fin 16) (h : Fin 8) :
    val_main_v40 (F := Ideal) x1 x2 x3 x4 x5 x10 x11 (ix4 b n j h)
      = val_main_v33 (F := Ideal) x1 x2 x3 x4 x5 x10 x11 (ix3 b (pos x1 x2 x3 x4 x5 b n j) h) := by
  unfold val_main_v40
  refine gather_rows _ _ _ b n j h (pos x1 x2 x3 x4 x5 b n j) ?_
  rw [v39_at, toNat_pos]

end Cert.ReferenceIdeal.Ref
-- ==== Proof.Soft.lean ====
/-
  The softmax-weighted sum of one head, as pure mathematics: the kernel's unnormalised powers over all keys, masked
  ones weighing zero, and the reference's normalised exponentials over the selected keys give the same value.
-/
module

public import Idealize.ShloMosaic.Lib.Pointwise

@[expose] public section

noncomputable section

namespace Cert.Near

open Idealize.ShloMosaic

/-- Multiplication by a nonnegative real distributes over a sum. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The quotient of two reals, the second not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- A quotient by a positive real is the product with its reciprocal. -/
theorem div_pos (x : EReal) (b : ℝ) (hb : 0 < b) : Ideal.div x (b : EReal) = ((b⁻¹ : ℝ) : EReal) * x := by
  unfold Ideal.div
  rw [if_neg (by exact_mod_cast hb.ne'), mul_comm, EReal.coe_inv]

section
variable {n K : ℕ} (p : Fin K → Fin n) (hp : Function.Injective p) (w : Fin n → EReal) (l : Fin n → ℝ)
  (hsel : ∀ j, w (p j) = ((Real.exp (l (p j)) : ℝ) : EReal)) (hmask : ∀ m, (∀ j, p j ≠ m) → w m = 0)
include hp hmask

/-- A sum over all keys of terms that vanish off the selected ones is the sum over the selected ones. -/
theorem sum_sel (f : Fin n → EReal) : ∑ m, w m * f m = ∑ j, w (p j) * f (p j) := by
  classical
  rw [← Finset.sum_image (s := Finset.univ) (g := p) (f := fun m => w m * f m) (fun a _ b _ h => hp h)]
  refine (Finset.sum_subset (Finset.subset_univ _) fun m _ hm => ?_).symm
  rw [hmask m (fun j hj => hm (Finset.mem_image.mpr ⟨j, Finset.mem_univ _, hj⟩)), zero_mul]

include hsel

/-- The two softmaxes agree: `mx` is whatever real the reference subtracts. -/
theorem soft_eq [NeZero K] (mx : ℝ) (v : Fin n → EReal) :
    Ideal.div (∑ m, w m * v m) (∑ m, w m)
      = ∑ j, Ideal.div ((Real.exp (l (p j) - mx) : ℝ) : EReal) (∑ i, ((Real.exp (l (p i) - mx) : ℝ) : EReal)) * v (p j) := by
  have h1 : ∑ m, w m = ((∑ j, Real.exp (l (p j)) : ℝ) : EReal) := by
    have := sum_sel p hp w hmask (fun _ => 1)
    simp only [mul_one] at this
    rw [this, coe_sum]
    exact Finset.sum_congr rfl fun j _ => hsel j
  have hA : 0 < ∑ j, Real.exp (l (p j)) := Finset.sum_pos (fun j _ => Real.exp_pos _) ⟨0, Finset.mem_univ _⟩
  have hB : 0 < ∑ j, Real.exp (l (p j) - mx) := Finset.sum_pos (fun j _ => Real.exp_pos _) ⟨0, Finset.mem_univ _⟩
  rw [sum_sel p hp w hmask v, h1, div_pos _ _ hA, mul_sum _ _ (inv_nonneg.mpr hA.le), ← coe_sum]
  refine Finset.sum_congr rfl fun j _ => ?_
  rw [hsel, div_coe _ _ hB.ne', ← mul_assoc, ← EReal.coe_mul]
  congr 2
  have : ∀ i, Real.exp (l (p i) - mx) = Real.exp (l (p i)) * Real.exp (-mx) := fun i => by rw [sub_eq_add_neg, Real.exp_add]
  simp only [this, ← Finset.sum_mul]
  have hne := (Real.exp_pos (-mx)).ne'
  field_simp

end

end Cert.Near
-- ==== Proof.RefC.lean ====
/-
  The reference's squared distances at real features: its expanded form `(|p|² + |q|²) - 2 p·q` is the sum of the squared
  differences.
-/
module

public import proofs.«01_k».proof.Proof.RefA
public import proofs.«01_k».proof.Proof.Soft

@[expose] public section

set_option maxRecDepth 16384

noncomputable section

namespace Cert.ReferenceIdeal.Ref

open Idealize.ShloMosaic Idealize.ShloMosaic.TcCoe Idealize.SL.Sem
open Cert.Near Cert.ReferenceIdeal Cert.ReferenceIdeal.Gen Cert.ReferenceIdeal.Read

/-- The literal 2. -/
theorem two_bits : Ideal.ofBits .f32 0x40000000#32 = ((2 : ℝ) : EReal) := by
  simp [Ideal.ofBits, Ideal.ieee]
  rw [← EReal.coe_mul]
  norm_num

/-- The literal 0. -/
theorem zero_bits : Ideal.ofBits .f32 0x00000000#32 = ((0 : ℝ) : EReal) := by
  simp [Ideal.ofBits, Ideal.ieee]

/-- The sum of squared differences, expanded. -/
theorem gap_expand (a b : Fin 9 → ℝ) :
    ∑ f, (a f - b f) * (a f - b f) = (∑ f, a f * a f + ∑ f, b f * b f) - 2 * ∑ f, a f * b f := by
  rw [Finset.mul_sum, ← Finset.sum_add_distrib, ← Finset.sum_sub_distrib]
  exact Finset.sum_congr rfl fun f _ => by ring

/-- A sum of products of reals, as a real. -/
theorem sum_prod (a b : Fin 9 → ℝ) : ∑ f, (a f : EReal) * (b f : EReal) = ((∑ f, a f * b f : ℝ) : EReal) := by
  rw [coe_sum]
  exact Finset.sum_congr rfl fun f _ => (EReal.coe_mul _ _).symm

variable (x1 : FVec Ideal S4x4096x3 .f32) (x2 x3 : FVec Ideal S4x4096x1 .f32)
  (x4 : FVec Ideal S4x4096x3 .f32) (x5 : FVec Ideal S4x4096x1 .f32)

/-- The squared norm of a point's features. -/
theorem v2_at (b : Fin 4) (n : Fin 4096) :
    val_main_v2 (F := Ideal) x1 x2 x3 x4 x5 (ix2 b n)
      = Ideal.ofBits .f32 0x00000000#32
        + ∑ f : Fin 9, val_main_v0 (F := Ideal) x1 x2 x3 x4 x5 (ix3 b n f) * val_main_v0 (F := Ideal) x1 x2 x3 x4 x5 (ix3 b n f) := by
  rw [val_main_v2_apply]
  refine congrArg₂ (fun u v => u + v) rfl (Finset.sum_congr rfl fun k _ => ?_)
  rw [val_main_v1_apply, show idx_main_v2 (ix2 b n) k = ix3 b n k from by
    funext a; match a with | ⟨0, _⟩ => rfl | ⟨1, _⟩ => rfl | ⟨2, _⟩ => rfl]
  rfl

/-- Minus the squared distance at real features. -/
theorem negd_real (G : Fin 4 → Fin 4096 → Fin 9 → ℝ)
    (hG : ∀ b n f, val_main_v0 (F := Ideal) x1 x2 x3 x4 x5 (ix3 b n f) = ((G b n f : ℝ) : EReal))
    (b : Fin 4) (n m : Fin 4096) :
    negd x1 x2 x3 x4 x5 b n m
      = ((-((∑ f, G b n f * G b n f + ∑ f, G b m f * G b m f) - 2 * ∑ f, G b n f * G b m f) : ℝ) : EReal) := by
  have hsq : ∀ n, val_main_v2 (F := Ideal) x1 x2 x3 x4 x5 (ix2 b n) = ((∑ f, G b n f * G b n f : ℝ) : EReal) := fun n => by
    rw [v2_at, zero_bits, EReal.coe_zero, zero_add, ← sum_prod]
    exact Finset.sum_congr rfl fun f _ => by rw [hG]
  have h5 : val_main_v5 (F := Ideal) x1 x2 x3 x4 x5 (ix3 b n m) = ((∑ f, G b n f * G b n f : ℝ) : EReal) := by
    rw [val_main_v5_apply, val_main_v3_apply, ← hsq n]
    exact congrArg _ (by funext a; match a with | ⟨0, _⟩ => rfl | ⟨1, _⟩ => rfl)
  have h6 : val_main_v6 (F := Ideal) x1 x2 x3 x4 x5 (ix3 b n m) = ((∑ f, G b m f * G b m f : ℝ) : EReal) := by
    rw [val_main_v6_apply, val_main_v4_apply, ← hsq m]
    exact congrArg _ (by funext a; match a with | ⟨0, _⟩ => rfl | ⟨1, _⟩ => rfl)
  have h8 : val_main_v8 (F := Ideal) x1 x2 x3 x4 x5 (ix3 b n m) = ((∑ f, G b n f * G b m f : ℝ) : EReal) := by
    rw [val_main_v8_apply, ← sum_prod]
    refine Finset.sum_congr rfl fun f _ => ?_
    rw [← hG b n f, ← hG b m f]
    refine congrArg₂ (fun u v => u * v) (congrArg _ ?_) (congrArg _ ?_) <;>
      (funext a; match a with | ⟨0, _⟩ => rfl | ⟨1, _⟩ => rfl | ⟨2, _⟩ => rfl)
  have h9 : val_main_v9 (F := Ideal) (ix3 b n m) = ((2 : ℝ) : EReal) := by
    rw [val_main_v9_apply, ← two_bits]; rfl
  unfold negd
  rw [val_main_v12_apply, val_main_v11_apply, val_main_v7_apply, val_main_v10_apply, h5, h6, h8, h9]
  show -((_ + _ : EReal) - _ * _) = _
  rw [← EReal.coe_add, ← EReal.coe_mul, ← EReal.coe_sub, ← EReal.coe_neg]

end Cert.ReferenceIdeal.Ref
-- ==== Proof.Thr.lean ====
/-
  The threshold of a row whose seventeen smallest values are different: the values at most the sixteenth distinct
  smallest value are those at the sixteen first positions of the row's order.
-/
module

public import proofs.«01_k».proof.Proof.Low

@[expose] public section

noncomputable section

namespace Cert.Near

open Idealize.ShloMosaic

/-- The smallest value is at most every value. -/
theorem low_le {n : ℕ} (e : Fin n → EReal) (m : Fin n) : low e ≤ e m :=
  Finset.inf_le (f := e) (Finset.mem_univ m)

/-- What is at most every value is at most the smallest one. -/
theorem le_low {n : ℕ} (e : Fin n → EReal) (a : EReal) (h : ∀ m, a ≤ e m) : a ≤ low e :=
  Finset.le_inf (f := e) fun m _ => h m

section
variable {n : ℕ} (e : Fin n → EReal) (σ : Fin n → Fin n) (hs : Function.Surjective σ)
  (hmono : ∀ i j : Fin n, i < j → e (σ i) ≤ e (σ j)) (hn : 17 ≤ n)
  (hstrict : ∀ i : Fin 16, e (σ ⟨i.val, by omega⟩) < e (σ ⟨i.val + 1, by omega⟩))
include hs hmono hstrict

/-- A later position than one of the first sixteen holds a greater value. -/
theorem lt_of_first (i : ℕ) (hi : i < 16) (j : Fin n) (hj : i < j.val) : e (σ ⟨i, by omega⟩) < e (σ j) := by
  refine lt_of_lt_of_le (hstrict ⟨i, hi⟩) ?_
  rcases Nat.eq_or_lt_of_le (Nat.succ_le_of_lt hj) with h | h
  · exact le_of_eq (congrArg (fun k => e (σ k)) (Fin.ext h))
  · exact hmono _ _ h

/-- The smallest value of the row with the first `i` positions at plus infinity is the one at position `i`. -/
theorem low_at (i : ℕ) (hi : i < 16) (f : Fin n → EReal) (hf : ∀ j : Fin n, f (σ j) = if j.val < i then ⊤ else e (σ j)) :
    low f = e (σ ⟨i, by omega⟩) := by
  apply le_antisymm
  · refine (low_le f (σ ⟨i, by omega⟩)).trans (le_of_eq ?_)
    rw [hf, if_neg (lt_irrefl i)]
  · refine le_low f _ fun m => ?_
    obtain ⟨j, rfl⟩ := hs m
    rw [hf]
    by_cases h : j.val < i
    · rw [if_pos h]; exact le_top
    · rw [if_neg h]
      rcases Nat.eq_or_lt_of_le (Nat.le_of_not_lt h) with h' | h'
      · exact le_of_eq (congrArg (fun k => e (σ k)) (Fin.ext h'))
      · exact hmono _ _ h'

/-- After `i` replacements the first `i` positions are plus infinity, the others unchanged. -/
theorem drop_at (i : ℕ) (hi : i < 16) (j : Fin n) : (drop^[i] e) (σ j) = if j.val < i then ⊤ else e (σ j) := by
  induction i generalizing j with
  | zero => simp
  | succ i ih =>
    have ih' := ih (by omega)
    rw [Function.iterate_succ_apply']
    have hl := low_at e σ hs hmono hn hstrict i (by omega) (drop^[i] e) ih'
    show (if (drop^[i] e) (σ j) ≤ low (drop^[i] e) then ⊤ else (drop^[i] e) (σ j)) = _
    rw [hl, ih']
    rcases lt_trichotomy j.val i with h | h | h
    · have h2 : j.val < i + 1 := by omega
      rw [if_pos h, if_pos h2, ite_self]
    · have h1 : ¬ j.val < i := by omega
      have h2 : j.val < i + 1 := by omega
      have h3 : e (σ j) ≤ e (σ ⟨i, by omega⟩) := le_of_eq (congrArg (fun k => e (σ k)) (Fin.ext h))
      rw [if_neg h1, if_pos h2, if_pos h3]
    · have h1 : ¬ j.val < i := by omega
      have h2 : ¬ j.val < i + 1 := by omega
      have h3 : ¬ e (σ j) ≤ e (σ ⟨i, by omega⟩) := not_le.mpr (lt_of_first e σ hs hmono hn hstrict i (by omega) j h)
      rw [if_neg h1, if_neg h2, if_neg h3]

/-- The threshold is the value at the sixteenth position. -/
theorem thr_at : thr e = e (σ ⟨15, by omega⟩) :=
  low_at e σ hs hmono hn hstrict 15 (by omega) _ (drop_at e σ hs hmono hn hstrict 15 (by omega))

/-- The values at most the threshold are those at the first sixteen positions. -/
theorem le_thr_iff (m : Fin n) : e m ≤ thr e ↔ ∃ j : Fin 16, σ ⟨j.val, by omega⟩ = m := by
  rw [thr_at e σ hs hmono hn hstrict]
  constructor
  · intro h
    obtain ⟨j, rfl⟩ := hs m
    by_cases hj : 15 < j.val
    · exact absurd h (not_le.mpr (lt_of_first e σ hs hmono hn hstrict 15 (by omega) j hj))
    · exact ⟨⟨j.val, by omega⟩, rfl⟩
  · rintro ⟨j, rfl⟩
    rcases Nat.eq_or_lt_of_le (Nat.le_of_lt_succ j.isLt) with h | h
    · exact le_of_eq (congrArg (fun k => e (σ k)) (Fin.ext h))
    · exact hmono _ _ h

end

/-- The same, with the bounds of the positions given. -/
theorem kept_first {n : ℕ} (e : Fin n → EReal) (σ : Fin n → Fin n) (hs : Function.Surjective σ)
    (hmono : ∀ i j : Fin n, i < j → e (σ i) ≤ e (σ j)) (hn : 17 ≤ n) (h0 : ∀ i : Fin 16, i.val < n)
    (h1 : ∀ i : Fin 16, i.val + 1 < n) (hstrict : ∀ i : Fin 16, e (σ ⟨i.val, h0 i⟩) < e (σ ⟨i.val + 1, h1 i⟩)) (m : Fin n) :
    e m ≤ thr e ↔ ∃ j : Fin 16, σ ⟨j.val, h0 j⟩ = m :=
  le_thr_iff e σ hs hmono hn hstrict m

end Cert.Near
-- ==== Proof.Dist.lean ====
/-
  The kernel's squared distances at real features: without the row's own norm they are the reference's distances shifted by a
  number that the row fixes, so they order the points the same way.
-/
module

public import proofs.«01_k».proof.Proof.KArr
public import proofs.«01_k».proof.Proof.Geom
public import proofs.«01_k».proof.Proof.Near
public import proofs.«01_k».proof.Proof.RefC
public import proofs.«01_k».proof.Proof.Thr

@[expose] public section

set_option maxRecDepth 16384

noncomputable section

namespace Cert.Near

open Idealize.ShloMosaic Idealize.ShloMosaic.TcCoe Idealize.SL.Sem
open Cert.KernelIdeal.Proj Cert.KernelIdeal.Att
open Cert.KernelIdeal (S4x4096x256 S4x4096x3 S4x4096x1 S256x256 S9x8 S8 S4x4096x16)
open Cert.ReferenceIdeal.Ref (negd negd_real pos gap_expand sum_prod zero_bits)

variable (x1 : FVec Ideal S4x4096x3 .f32) (x2 x3 : FVec Ideal S4x4096x1 .f32)
  (x4 : FVec Ideal S4x4096x3 .f32) (x5 : FVec Ideal S4x4096x1 .f32)

/-- The kernel's joined features are the reference's. -/
theorem geo_eq (b : Fin 4) (n : Fin 4096) (f : Fin 9) :
    geo x1 x4 x2 x3 x5 b n f = Cert.ReferenceIdeal.Read.val_main_v0 (F := Ideal) x1 x2 x3 x4 x5 (ix3 b n f) := by
  have h0 : ∀ i : Fin 1, i = 0 := fun i => Subsingleton.elim _ _
  unfold geo
  pointwise [Cert.ReferenceIdeal.Read.val_main_v0]
  by_cases a : (f : ℕ) < 3
  · rw [dif_pos a, dif_pos a]
  rw [dif_neg a, dif_neg a]
  by_cases a' : (f : ℕ) - 3 < 3
  · rw [dif_pos a', dif_pos a']
  rw [dif_neg a', dif_neg a']
  by_cases a'' : (f : ℕ) - 3 - 3 < 1
  · rw [if_pos a'', dif_pos a'', h0 ⟨_, _⟩]
  rw [if_neg a'', dif_neg a'']
  by_cases a3 : (f : ℕ) - 3 - 3 - 1 < 1
  · rw [if_pos a3, dif_pos a3, h0 ⟨_, _⟩]
  rw [if_neg a3, dif_neg a3, h0 ⟨_, _⟩]

/-- The literal -2. -/
theorem minus_two_bits : Ideal.ofBits .f32 0xC0000000#32 = ((-2 : ℝ) : EReal) := by
  simp [Ideal.ofBits, Ideal.ieee]
  rw [← EReal.coe_mul]
  norm_num

variable (G : Fin 4 → Fin 4096 → Fin 9 → ℝ)
  (hG : ∀ b n f, Cert.ReferenceIdeal.Read.val_main_v0 (F := Ideal) x1 x2 x3 x4 x5 (ix3 b n f) = ((G b n f : ℝ) : EReal))
include hG

/-- The kernel's shifted distance, as a real number. -/
theorem edist_real (b : Fin 4) (n m : Fin 4096) :
    edist (rowop x1 x4 x2 x3 x5) (colop x1 x4 x2 x3 x5) b n m
      = ((-2 * (∑ f, G b n f * G b m f) + ∑ f, G b m f * G b m f : ℝ) : EReal) := by
  have hg : ∀ n f, geo x1 x4 x2 x3 x5 b n f = ((G b n f : ℝ) : EReal) := fun n f => (geo_eq x1 x2 x3 x4 x5 b n f).trans (hG b n f)
  have hlow : ∀ f : Fin 9, rowop x1 x4 x2 x3 x5 (ix3 b n (Fin.castAdd 7 f)) * colop x1 x4 x2 x3 x5 (ix3 b m (Fin.castAdd 7 f))
      = ((-2 * (G b n f * G b m f) : ℝ) : EReal) := fun f => by
    have hr : rowop x1 x4 x2 x3 x5 (ix3 b n (Fin.castAdd 7 f)) = Ideal.ofBits .f32 0xC0000000#32 * geo x1 x4 x2 x3 x5 b n f :=
      dif_pos f.isLt
    have hc : colop x1 x4 x2 x3 x5 (ix3 b m (Fin.castAdd 7 f)) = geo x1 x4 x2 x3 x5 b m f := dif_pos f.isLt
    rw [hr, hc, hg, hg, minus_two_bits, ← EReal.coe_mul, ← EReal.coe_mul, mul_assoc]
  have hhigh : ∀ f : Fin 7, rowop x1 x4 x2 x3 x5 (ix3 b n (Fin.natAdd 9 f)) * colop x1 x4 x2 x3 x5 (ix3 b m (Fin.natAdd 9 f)) = 0 :=
    fun f => by
    have hr : rowop x1 x4 x2 x3 x5 (ix3 b n (Fin.natAdd 9 f)) = 0 :=
      dif_neg (show ¬ (9 + f.val < 9) by omega)
    rw [hr, zero_mul]
  have h9 : colop x1 x4 x2 x3 x5 (ix3 b m 9) = ((∑ f, G b m f * G b m f : ℝ) : EReal) := by
    have hc : colop x1 x4 x2 x3 x5 (ix3 b m 9) = ∑ f : Fin 9, geo x1 x4 x2 x3 x5 b m f * geo x1 x4 x2 x3 x5 b m f := rfl
    rw [hc, ← sum_prod]
    exact Finset.sum_congr rfl fun f _ => by rw [hg]
  unfold Cert.KernelIdeal.Att.edist
  rw [h9, EReal.coe_add]
  refine congrArg (fun u => u + _) ?_
  refine (Fin.sum_univ_add (a := 9) (b := 7) (fun f : Fin 16 =>
    rowop x1 x4 x2 x3 x5 (ix3 b n f) * colop x1 x4 x2 x3 x5 (ix3 b m f))).trans ?_
  rw [Finset.sum_congr rfl fun f _ => hlow f, Finset.sum_congr rfl fun f _ => hhigh f, Finset.sum_const_zero, add_zero,
    ← coe_sum, Finset.mul_sum]

/-- The precondition's distances are the reference's. -/
theorem negGap_real (b : Fin 4) (n m : Fin 4096) :
    Pre.negGap (Pre.geoCat x1 x2 x3 x4 x5) (ix3 b n m) = negd x1 x2 x3 x4 x5 b n m := by
  have hg : ∀ n f, Pre.geoCat x1 x2 x3 x4 x5 (ix3 b n f) = ((G b n f : ℝ) : EReal) := fun n f => hG b n f
  rw [Pre.negGap_at, negd_real x1 x2 x3 x4 x5 G hG, ← gap_expand, zero_bits, EReal.coe_zero, zero_add, EReal.coe_neg, ← sum_prod]
  refine congrArg (fun u : EReal => -u) (Finset.sum_congr rfl fun f _ => ?_)
  rw [hg, hg, EReal.coe_sub]

/-- The kernel orders the points as the reference does, strictly. -/
theorem edist_lt (b : Fin 4) (n i j : Fin 4096) (h : negd x1 x2 x3 x4 x5 b n j < negd x1 x2 x3 x4 x5 b n i) :
    edist (rowop x1 x4 x2 x3 x5) (colop x1 x4 x2 x3 x5) b n i < edist (rowop x1 x4 x2 x3 x5) (colop x1 x4 x2 x3 x5) b n j := by
  rw [negd_real x1 x2 x3 x4 x5 G hG, negd_real x1 x2 x3 x4 x5 G hG, EReal.coe_lt_coe_iff] at h
  rw [edist_real x1 x2 x3 x4 x5 G hG, edist_real x1 x2 x3 x4 x5 G hG, EReal.coe_lt_coe_iff]
  linarith

/-- The kernel orders the points as the reference does. -/
theorem edist_le (b : Fin 4) (n i j : Fin 4096) (h : negd x1 x2 x3 x4 x5 b n j ≤ negd x1 x2 x3 x4 x5 b n i) :
    edist (rowop x1 x4 x2 x3 x5) (colop x1 x4 x2 x3 x5) b n i ≤ edist (rowop x1 x4 x2 x3 x5) (colop x1 x4 x2 x3 x5) b n j := by
  rw [negd_real x1 x2 x3 x4 x5 G hG, negd_real x1 x2 x3 x4 x5 G hG, EReal.coe_le_coe_iff] at h
  rw [edist_real x1 x2 x3 x4 x5 G hG, edist_real x1 x2 x3 x4 x5 G hG, EReal.coe_le_coe_iff]
  linarith

/-- THE MASK: where the seventeen smallest distances of a row are strictly increasing, the kernel's threshold keeps exactly the
    sixteen points that the reference ranks first. -/
theorem kept_iff (b : Fin 4) (n : Fin 4096)
    (hapart : ∀ i : Fin 16,
      Pre.negGap (Pre.geoCat x1 x2 x3 x4 x5) (ix3 b n
          (rank (fun m => Pre.negGap (Pre.geoCat x1 x2 x3 x4 x5) (ix3 b n m)) ⟨i.val + 1, by omega⟩))
        < Pre.negGap (Pre.geoCat x1 x2 x3 x4 x5) (ix3 b n
          (rank (fun m => Pre.negGap (Pre.geoCat x1 x2 x3 x4 x5) (ix3 b n m)) ⟨i.val, by omega⟩)))
    (m : Fin 4096) :
    edist (rowop x1 x4 x2 x3 x5) (colop x1 x4 x2 x3 x5) b n m ≤ thr (edist (rowop x1 x4 x2 x3 x5) (colop x1 x4 x2 x3 x5) b n)
      ↔ ∃ j : Fin 16, pos x1 x2 x3 x4 x5 b n j = m := by
  have hrow : (fun m => Pre.negGap (Pre.geoCat x1 x2 x3 x4 x5) (ix3 b n m)) = negd x1 x2 x3 x4 x5 b n :=
    funext fun m => negGap_real x1 x2 x3 x4 x5 G hG b n m
  have hap : ∀ i : Fin 16, negd x1 x2 x3 x4 x5 b n (rank (negd x1 x2 x3 x4 x5 b n) ⟨i.val + 1, by omega⟩)
      < negd x1 x2 x3 x4 x5 b n (rank (negd x1 x2 x3 x4 x5 b n) ⟨i.val, by omega⟩) := fun i => by
    have h := hapart i
    rw [hrow, negGap_real x1 x2 x3 x4 x5 G hG, negGap_real x1 x2 x3 x4 x5 G hG] at h
    exact h
  exact kept_first (edist (rowop x1 x4 x2 x3 x5) (colop x1 x4 x2 x3 x5) b n) (rank (negd x1 x2 x3 x4 x5 b n))
    (rank_surj _) (fun i j hij => edist_le x1 x2 x3 x4 x5 G hG b n _ _ (rank_le _ i j hij)) (by decide)
    (fun i => by omega) (fun i => by omega)
    (fun i => edist_lt x1 x2 x3 x4 x5 G hG b n _ _ (hap i)) m

end Cert.Near
-- ==== Proof.RefB.lean ====
/-
  The reference, second half: the logits, the softmax over the sixteen nearest points, and the output projection.
-/
module

public import proofs.«01_k».proof.Proof.RefA

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Read
open Cert.Near

variable (x0 : FVec Ideal S4x4096x256 .f32) (x1 : FVec Ideal S4x4096x3 .f32) (x2 x3 : FVec Ideal S4x4096x1 .f32)
  (x4 : FVec Ideal S4x4096x3 .f32) (x5 : FVec Ideal S4x4096x1 .f32) (x6 x7 x8 x9 : FVec Ideal S256x256 .f32)
  (x10 : FVec Ideal S9x8 .f32) (x11 : FVec Ideal S8 .f32)

/-- Column `i` of head `h`. -/
def hcol (h : Fin 8) (i : Fin 32) : Fin 256 := ⟨32 * h.val + i.val, by omega⟩

/-- Where this operation reads its operand, as an index. -/
theorem idx42 (b : Fin 4) (n : Fin 4096) (h : Fin 8) (i : Fin 32) : idx_main_v42 (ix4 b n h i) = ix3 b n (hcol h i) := by
  funext a
  refine Fin.ext ?_
  match a with
  | ⟨0, _⟩ => show (((b.val * 4096 + n.val) * 8 + h.val) * 32 + i.val) / 1048576 = b.val; omega
  | ⟨1, _⟩ => show (((b.val * 4096 + n.val) * 8 + h.val) * 32 + i.val) / 256 % 4096 = n.val; omega
  | ⟨2, _⟩ => show (((b.val * 4096 + n.val) * 8 + h.val) * 32 + i.val) % 256 = 32 * h.val + i.val; omega

/-- Where this operation reads its operand, as an index. -/
theorem idx43 (b : Fin 4) (n : Fin 4096) (j : Fin 16) (h : Fin 8) (i : Fin 32) :
    idx_main_v43 (ix5 b n j h i) = ix4 b n j (hcol h i) := by
  funext a
  refine Fin.ext ?_
  match a with
  | ⟨0, _⟩ => show ((((b.val * 4096 + n.val) * 16 + j.val) * 8 + h.val) * 32 + i.val) / 16777216 = b.val; omega
  | ⟨1, _⟩ => show ((((b.val * 4096 + n.val) * 16 + j.val) * 8 + h.val) * 32 + i.val) / 4096 % 4096 = n.val; omega
  | ⟨2, _⟩ => show ((((b.val * 4096 + n.val) * 16 + j.val) * 8 + h.val) * 32 + i.val) / 256 % 16 = j.val; omega
  | ⟨3, _⟩ => show ((((b.val * 4096 + n.val) * 16 + j.val) * 8 + h.val) * 32 + i.val) % 256 = 32 * h.val + i.val; omega

/-- Where this operation reads its operand, as an index. -/
theorem idx44 (b : Fin 4) (n : Fin 4096) (j : Fin 16) (h : Fin 8) (i : Fin 32) :
    idx_main_v44 (ix5 b n j h i) = ix4 b n j (hcol h i) := idx43 b n j h i

/-- Where this operation reads its operand, as an index. -/
theorem lidx45 (b : Fin 4) (h : Fin 8) (n : Fin 4096) (j : Fin 16) (i : Fin 32) : lidx_main_v45 (ix4 b h n j) i = ix4 b n h i := by
  funext a; match a with | ⟨0, _⟩ => rfl | ⟨1, _⟩ => rfl | ⟨2, _⟩ => rfl | ⟨3, _⟩ => rfl
/-- Where this operation reads its operand, as an index. -/
theorem ridx45 (b : Fin 4) (h : Fin 8) (n : Fin 4096) (j : Fin 16) (i : Fin 32) : ridx_main_v45 (ix4 b h n j) i = ix5 b n j h i := by
  funext a; match a with | ⟨0, _⟩ => rfl | ⟨1, _⟩ => rfl | ⟨2, _⟩ => rfl | ⟨3, _⟩ => rfl | ⟨4, _⟩ => rfl
/-- Where this operation reads its operand, as an index. -/
theorem idx41 (b : Fin 4) (h : Fin 8) (n : Fin 4096) (j : Fin 16) : idx_main_v41 (ix4 b h n j) = ix4 b n j h := by
  funext a; match a with | ⟨0, _⟩ => rfl | ⟨1, _⟩ => rfl | ⟨2, _⟩ => rfl | ⟨3, _⟩ => rfl

/-- The bias of point `m` in head `h`. -/
def bias (b : Fin 4) (m : Fin 4096) (h : Fin 8) : EReal :=
  (∑ f : Fin 9, val_main_v0 (F := Ideal) x1 x2 x3 x4 x5 (ix3 b m f) * x10 (ix2 f h)) + x11 (ix1 h)

/-- The bias array holds `bias`. -/
theorem v33_at (b : Fin 4) (m : Fin 4096) (h : Fin 8) :
    val_main_v33 (F := Ideal) x1 x2 x3 x4 x5 x10 x11 (ix3 b m h) = bias x1 x2 x3 x4 x5 x10 x11 b m h := by
  rw [val_main_v33_apply, val_main_v30_apply, val_main_v32_apply, val_main_v31_apply]
  unfold bias
  refine congrArg₂ (fun u v => u + v) (Finset.sum_congr rfl fun k _ => ?_) ?_
  · exact congrArg₂ (fun u v => val_main_v0 (F := Ideal) x1 x2 x3 x4 x5 u * x10 v)
      (by funext a; match a with | ⟨0, _⟩ => rfl | ⟨1, _⟩ => rfl | ⟨2, _⟩ => rfl)
      (by funext a; match a with | ⟨0, _⟩ => rfl | ⟨1, _⟩ => rfl)
  · exact congrArg x11 (by funext a; match a with | ⟨0, _⟩ => rfl)

/-- The logit of point `m` for point `n` in head `h`. -/
def logit (b : Fin 4) (h : Fin 8) (n m : Fin 4096) : EReal :=
  Ideal.div (∑ i : Fin 32, lin x0 x6 b n (hcol h i) * lin x0 x7 b m (hcol h i)) (Ideal.sqrt (Ideal.ofBits .f32 0x42000000#32))
    + bias x1 x2 x3 x4 x5 x10 x11 b m h

/-- The logits array holds the logits of the nearest points. -/
theorem v48'_at (b : Fin 4) (h : Fin 8) (n : Fin 4096) (j : Fin 16) :
    val_main_v49 (F := Ideal) x0 x1 x2 x3 x4 x5 x6 x7 x10 x11 (ix4 b h n j)
      = logit x0 x1 x2 x3 x4 x5 x6 x7 x10 x11 b h n (pos x1 x2 x3 x4 x5 b n j) := by
  rw [val_main_v49_apply, val_main_v48_apply, val_main_v47_apply, val_main_v46_apply, val_main_cst_6_apply, val_main_v45_apply,
    val_main_v41_apply, idx41, v40_at, v33_at]
  unfold logit
  refine congrArg₂ (fun u v => u + v) (congrArg₂ Ideal.div (Finset.sum_congr rfl fun i _ => ?_) rfl) rfl
  rw [lidx45, ridx45, val_main_v42_apply, val_main_v43_apply, idx42, idx43, v13_at, v22_at]

/-- The value the reference subtracts from a row's logits. -/
def top (b : Fin 4) (h : Fin 8) (n : Fin 4096) : EReal :=
  max (Ideal.ofBits .f32 0xFF800000#32) (Finset.univ.fold max (Ideal.ofBits .f32 0xFF800000#32) fun j : Fin 16 =>
    logit x0 x1 x2 x3 x4 x5 x6 x7 x10 x11 b h n (pos x1 x2 x3 x4 x5 b n j))

/-- The row maximum of the logits. -/
theorem v50_at (b : Fin 4) (h : Fin 8) (n : Fin 4096) :
    val_main_v50 (F := Ideal) x0 x1 x2 x3 x4 x5 x6 x7 x10 x11 (ix3 b h n)
      = Finset.univ.fold max (Ideal.ofBits .f32 0xFF800000#32) fun j : Fin 16 =>
          logit x0 x1 x2 x3 x4 x5 x6 x7 x10 x11 b h n (pos x1 x2 x3 x4 x5 b n j) := by
  have e := fun j => v48'_at x0 x1 x2 x3 x4 x5 x6 x7 x10 x11 b h n j
  unfold val_main_v50
  generalize val_main_v49 (F := Ideal) x0 x1 x2 x3 x4 x5 x6 x7 x10 x11 = y at *
  pointwise []
  simp only [e]
  rfl

/-- Where this operation reads its operand, as an index. -/
theorem idx53 (b : Fin 4) (h : Fin 8) (n : Fin 4096) : idx_main_v53 (ix4 b h n 0) = ix3 b h n := by
  funext a; match a with | ⟨0, _⟩ => rfl | ⟨1, _⟩ => rfl | ⟨2, _⟩ => rfl
/-- Where this operation reads its operand, as an index. -/
theorem idx54 (b : Fin 4) (h : Fin 8) (n : Fin 4096) (j : Fin 16) : idx_main_v54 (ix4 b h n j) = ix4 b h n 0 := by
  funext a; match a with | ⟨0, _⟩ => rfl | ⟨1, _⟩ => rfl | ⟨2, _⟩ => rfl | ⟨3, _⟩ => rfl
/-- Where this operation reads its operand, as an index. -/
theorem idx57 (b : Fin 4) (h : Fin 8) (n : Fin 4096) (j : Fin 16) : idx_main_v57 (ix3 b h n) j = ix4 b h n j := by
  funext a; match a with | ⟨0, _⟩ => rfl | ⟨1, _⟩ => rfl | ⟨2, _⟩ => rfl | ⟨3, _⟩ => rfl
/-- Where this operation reads its operand, as an index. -/
theorem idx58 (b : Fin 4) (h : Fin 8) (n : Fin 4096) : idx_main_v58 (ix4 b h n 0) = ix3 b h n := by
  funext a; match a with | ⟨0, _⟩ => rfl | ⟨1, _⟩ => rfl | ⟨2, _⟩ => rfl
/-- Where this operation reads its operand, as an index. -/
theorem idx59 (b : Fin 4) (h : Fin 8) (n : Fin 4096) (j : Fin 16) : idx_main_v59 (ix4 b h n j) = ix4 b h n 0 := by
  funext a; match a with | ⟨0, _⟩ => rfl | ⟨1, _⟩ => rfl | ⟨2, _⟩ => rfl | ⟨3, _⟩ => rfl

/-- The exponential of a logit less the row's greatest. -/
def expo (b : Fin 4) (h : Fin 8) (n : Fin 4096) (j : Fin 16) : EReal :=
  Ideal.exp (logit x0 x1 x2 x3 x4 x5 x6 x7 x10 x11 b h n (pos x1 x2 x3 x4 x5 b n j) - top x0 x1 x2 x3 x4 x5 x6 x7 x10 x11 b h n)

/-- The exponentials array holds `expo`. -/
theorem v56_at (b : Fin 4) (h : Fin 8) (n : Fin 4096) (j : Fin 16) :
    val_main_v56 (F := Ideal) x0 x1 x2 x3 x4 x5 x6 x7 x10 x11 (ix4 b h n j) = expo x0 x1 x2 x3 x4 x5 x6 x7 x10 x11 b h n j := by
  rw [val_main_v56_apply, val_main_v55_apply, val_main_v54_apply, idx54, val_main_v53_apply, idx53, val_main_v52_apply,
    val_main_v51_apply, val_main_cst_8_apply, v50_at, v48'_at]
  rfl

/-- The attention weights: each exponential over their sum. -/
theorem v60_at (b : Fin 4) (h : Fin 8) (n : Fin 4096) (j : Fin 16) :
    val_main_v60 (F := Ideal) x0 x1 x2 x3 x4 x5 x6 x7 x10 x11 (ix4 b h n j)
      = Ideal.div (expo x0 x1 x2 x3 x4 x5 x6 x7 x10 x11 b h n j)
          (Ideal.ofBits .f32 0x00000000#32 + ∑ k : Fin 16, expo x0 x1 x2 x3 x4 x5 x6 x7 x10 x11 b h n k) := by
  rw [val_main_v60_apply, val_main_v59_apply, idx59, val_main_v58_apply, idx58, val_main_v57_apply, val_main_cst_9_apply, v56_at]
  refine congrArg₂ Ideal.div rfl (congrArg₂ (fun u v => u + v) rfl (Finset.sum_congr rfl fun k _ => ?_))
  rw [idx57, v56_at]

/-- One head's output at a column: the weighted sum of the gathered values. -/
def headR (b : Fin 4) (n : Fin 4096) (h : Fin 8) (i : Fin 32) : EReal :=
  ∑ j : Fin 16, Ideal.div (expo x0 x1 x2 x3 x4 x5 x6 x7 x10 x11 b h n j)
          (Ideal.ofBits .f32 0x00000000#32 + ∑ k : Fin 16, expo x0 x1 x2 x3 x4 x5 x6 x7 x10 x11 b h n k)
        * lin x0 x8 b (pos x1 x2 x3 x4 x5 b n j) (hcol h i)

/-- The heads' outputs hold `headR`. -/
theorem v61_at (b : Fin 4) (n : Fin 4096) (h : Fin 8) (i : Fin 32) :
    val_main_v61 (F := Ideal) x0 x1 x2 x3 x4 x5 x6 x7 x8 x10 x11 (ix4 b n h i)
      = headR x0 x1 x2 x3 x4 x5 x6 x7 x8 x10 x11 b n h i := by
  rw [val_main_v61_apply]
  unfold headR
  refine Finset.sum_congr rfl fun j _ => ?_
  rw [show lidx_main_v61 (ix4 b n h i) j = ix4 b h n j from by
      funext a; match a with | ⟨0, _⟩ => rfl | ⟨1, _⟩ => rfl | ⟨2, _⟩ => rfl | ⟨3, _⟩ => rfl,
    show ridx_main_v61 (ix4 b n h i) j = ix5 b n j h i from by
      funext a; match a with | ⟨0, _⟩ => rfl | ⟨1, _⟩ => rfl | ⟨2, _⟩ => rfl | ⟨3, _⟩ => rfl | ⟨4, _⟩ => rfl,
    v60_at, val_main_v44_apply, idx44, v29_at]

/-- Where this operation reads its operand, as an index. -/
theorem idx62 (b : Fin 4) (n : Fin 4096) (c : Fin 256) :
    idx_main_v62 (ix3 b n c) = ix4 b n ⟨c.val / 32, by omega⟩ ⟨c.val % 32, Nat.mod_lt _ (by decide)⟩ := by
  funext a
  refine Fin.ext ?_
  match a with
  | ⟨0, _⟩ => show ((b.val * 4096 + n.val) * 256 + c.val) / 1048576 = b.val; omega
  | ⟨1, _⟩ => show ((b.val * 4096 + n.val) * 256 + c.val) / 256 % 4096 = n.val; omega
  | ⟨2, _⟩ => show ((b.val * 4096 + n.val) * 256 + c.val) / 32 % 8 = c.val / 32; omega
  | ⟨3, _⟩ => show ((b.val * 4096 + n.val) * 256 + c.val) % 32 = c.val % 32; omega

/-- The reference's result. -/
theorem v63_at (b : Fin 4) (n : Fin 4096) (o : Fin 256) :
    val_main_v63 (F := Ideal) x0 x1 x2 x3 x4 x5 x6 x7 x8 x9 x10 x11 (ix3 b n o)
      = ∑ c : Fin 256, headR x0 x1 x2 x3 x4 x5 x6 x7 x8 x10 x11 b n ⟨c.val / 32, by omega⟩ ⟨c.val % 32, Nat.mod_lt _ (by decide)⟩
          * x9 (ix2 c o) := by
  rw [val_main_v63_apply]
  refine Finset.sum_congr rfl fun c _ => ?_
  rw [show lidx_main_v63 (ix3 b n o) c = ix3 b n c from by
      funext a; match a with | ⟨0, _⟩ => rfl | ⟨1, _⟩ => rfl | ⟨2, _⟩ => rfl,
    show ridx_main_v63 (ix3 b n o) c = ix2 c o from by
      funext a; match a with | ⟨0, _⟩ => rfl | ⟨1, _⟩ => rfl,
    val_main_v62_apply, idx62, v61_at]

end Cert.ReferenceIdeal.Ref
-- ==== Proof.Equation.lean ====
/-
  The equation: under the precondition the kernel's result, as a function of the arguments, is the reference's.
-/
module

public import proofs.«01_k».proof.Proof.Dist
public import proofs.«01_k».proof.Proof.RefB

@[expose] public section

set_option maxRecDepth 16384

noncomputable section

namespace Cert.Near

open Idealize.ShloMosaic Idealize.ShloMosaic.TcCoe Idealize.SL.Sem
open Cert.KernelIdeal.Proj Cert.KernelIdeal.Att
open Cert.KernelIdeal (S4x4096x256 S4x4096x3 S4x4096x1 S256x256 S9x8 S8 S16x8 S1x8 S4x4096x16)
open Cert.ReferenceIdeal.Ref (negd pos lin logit top expo headR bias hcol zero_bits)

/-! ## Real sums -/

/-- A sum of products of real numbers is a real number. -/
theorem sum_mul_real {n : ℕ} (a b : Fin n → EReal) (ha : ∀ i, ∃ r : ℝ, a i = (r : EReal)) (hb : ∀ i, ∃ r : ℝ, b i = (r : EReal)) :
    ∃ r : ℝ, ∑ i, a i * b i = (r : EReal) := by
  choose f hf using ha
  choose g hg using hb
  refine ⟨∑ i, f i * g i, ?_⟩
  rw [coe_sum]
  exact Finset.sum_congr rfl fun i _ => by rw [hf, hg, EReal.coe_mul]

/-- The largest of finitely many real numbers, started at minus infinity, is a real number. -/
theorem fold_max_real (f : Fin 16 → ℝ) : ∃ r : ℝ, Finset.univ.fold max (⊥ : EReal) (fun j => (f j : EReal)) = (r : EReal) := by
  have hlt : Finset.univ.fold max (⊥ : EReal) (fun j => (f j : EReal)) < ⊤ :=
    Finset.fold_max_lt _ |>.mpr ⟨bot_lt_top, fun j _ => EReal.coe_lt_top _⟩
  have hgt : (⊥ : EReal) < Finset.univ.fold max (⊥ : EReal) (fun j => (f j : EReal)) :=
    Finset.lt_fold_max _ |>.mpr (Or.inr ⟨0, Finset.mem_univ _, EReal.bot_lt_coe _⟩)
  exact ⟨_, (EReal.coe_toReal hlt.ne hgt.ne').symm⟩

/-- The literal -∞. -/
theorem neg_inf_bits : Ideal.ofBits .f32 0xFF800000#32 = ⊥ := by
  simp [Ideal.ofBits, Ideal.ieee]

/-- The literal 32. -/
theorem bits_32 : Ideal.ofBits .f32 0x42000000#32 = ((32 : ℝ) : EReal) := by
  simp [Ideal.ofBits, Ideal.ieee]
  rw [← EReal.coe_mul]
  norm_num

/-- The reference's divisor. -/
theorem root_bits : Ideal.sqrt (Ideal.ofBits .f32 0x42000000#32) = ((Real.sqrt 32 : ℝ) : EReal) := by
  rw [bits_32]
  show (if (32 : ℝ) < 0 then (⊥ : EReal) else ((Real.sqrt 32 : ℝ) : EReal)) = _
  rw [if_neg (by norm_num)]

/-- The kernel's factor: one over √32, over the logarithm of two. -/
theorem c2_real : c2 = (((Real.sqrt 32)⁻¹ * (Real.log 2)⁻¹ : ℝ) : EReal) := by
  rw [EReal.coe_mul]
  rfl

/-- √32 is positive. -/
theorem root_pos : 0 < Real.sqrt 32 := Real.sqrt_pos.mpr (by norm_num)

/-- A power of two with the logarithm's factor is an exponential. -/
theorem exp2_real (s β : ℝ) :
    Ideal.exp2 (((s : EReal) + ((β * Real.sqrt 32 : ℝ) : EReal) + 0) * c2) = ((Real.exp (s / Real.sqrt 32 + β) : ℝ) : EReal) := by
  rw [add_zero, c2_real, ← EReal.coe_add, ← EReal.coe_mul]
  show ((Real.rpow 2 _ : ℝ) : EReal) = _
  congr 1
  have hl : Real.log 2 ≠ 0 := (Real.log_pos (by norm_num)).ne'
  have hr : Real.sqrt 32 ≠ 0 := root_pos.ne'
  refine (Real.rpow_def_of_pos (by norm_num : (0 : ℝ) < 2) _).trans ?_
  congr 1
  field_simp

/-- A masked key weighs nothing. -/
theorem exp2_masked (t : EReal) : Ideal.exp2 ((t + ⊥) * c2) = 0 := by
  rw [EReal.add_bot, c2_real, EReal.bot_mul_coe_of_pos (mul_pos (inv_pos.mpr root_pos) (inv_pos.mpr (Real.log_pos (by norm_num))))]
  rfl

/-! ## The heads -/

variable (x0 : FVec Ideal S4x4096x256 .f32) (x1 : FVec Ideal S4x4096x3 .f32) (x2 x3 : FVec Ideal S4x4096x1 .f32)
  (x4 : FVec Ideal S4x4096x3 .f32) (x5 : FVec Ideal S4x4096x1 .f32) (x6 x7 x8 x9 : FVec Ideal S256x256 .f32)
  (x10 : FVec Ideal S9x8 .f32) (x11 : FVec Ideal S8 .f32)
  (hP : Pre.Says x0 x1 x2 x3 x4 x5 x6 x7 x10 x11)
  (T : FVec Ideal S16x8 .f32) (B : FVec Ideal S1x8 .f32)
  (hT : ∀ (f : Fin 9) (h : Fin 8) (hf : f.val < 16), T (ix2 ⟨f.val, hf⟩ h) = x10 (ix2 f h)) (hB : ∀ h : Fin 8, B (ix2 0 h) = x11 (ix1 h))

include hP in
/-- The features are real numbers. -/
theorem feat_real : ∃ G : Fin 4 → Fin 4096 → Fin 9 → ℝ,
    ∀ b n f, Cert.ReferenceIdeal.Read.val_main_v0 (F := Ideal) x1 x2 x3 x4 x5 (ix3 b n f) = ((G b n f : ℝ) : EReal) :=
  ⟨fun b n f => (hP.geo b n f).choose, fun b n f => (hP.geo b n f).choose_spec⟩

include hP in
/-- The bias is a real number. -/
theorem bias_real (b : Fin 4) (m : Fin 4096) (h : Fin 8) : ∃ r : ℝ, bias x1 x2 x3 x4 x5 x10 x11 b m h = (r : EReal) := by
  obtain ⟨s, hs⟩ := sum_mul_real
    (fun f : Fin 9 => Cert.ReferenceIdeal.Read.val_main_v0 (F := Ideal) x1 x2 x3 x4 x5 (ix3 b m f)) (fun f => x10 (ix2 f h))
    (fun f => hP.geo b m f) (fun f => hP.gw _)
  obtain ⟨t, ht⟩ := hP.gb (ix1 h)
  exact ⟨s + t, by unfold bias; rw [hs, ht, EReal.coe_add]⟩

include hP in
/-- The products of queries and keys are real numbers. -/
theorem dot_real (b : Fin 4) (h : Fin 8) (n m : Fin 4096) :
    ∃ r : ℝ, ∑ i : Fin 32, lin x0 x6 b n (hcol h i) * lin x0 x7 b m (hcol h i) = (r : EReal) :=
  sum_mul_real _ _
    (fun i => sum_mul_real (fun k => x0 (ix3 b n k)) (fun k => x6 (ix2 k (hcol h i))) (fun _ => hP.x _) (fun _ => hP.wq _))
    (fun i => sum_mul_real (fun k => x0 (ix3 b m k)) (fun k => x7 (ix2 k (hcol h i))) (fun _ => hP.x _) (fun _ => hP.wk _))

include hT hB in
/-- The kernel's bias array is the reference's bias times √32. -/
theorem gbias_at (b : Fin 4) (m : Fin 4096) (h : Fin 8) :
    gbias x1 x4 x2 x3 x5 T B (ix3 b m h) = bias x1 x2 x3 x4 x5 x10 x11 b m h * ((Real.sqrt 32 : ℝ) : EReal) := by
  have e : gbias x1 x4 x2 x3 x5 T B (ix3 b m h)
      = ((∑ f : Fin 9, geo x1 x4 x2 x3 x5 b m f * T (ix2 (⟨f.val, by omega⟩ : Fin 16) h)) + B (ix2 0 h))
        * ((Real.sqrt 32 : ℝ) : EReal) := rfl
  rw [e, hB]
  unfold bias
  refine congrArg (fun u => (u + _) * _) (Finset.sum_congr rfl fun f _ => ?_)
  rw [geo_eq, hT]

include hP hT hB in
/-- One head of one row: the kernel's quotient over all keys is the reference's softmax over the sixteen nearest. -/
theorem head_eq (b : Fin 4) (n : Fin 4096) (h : Fin 8) (i : Fin 32) :
    headAt (fun a => proj x0 x6 (ix3 b n a)) (fun m a => proj x0 x7 (ix3 b m a)) (fun m a => proj x0 x8 (ix3 b m a))
        (fun m h => gbias x1 x4 x2 x3 x5 T B (ix3 b m h))
        (maskOf (Cert.KernelIdeal.Att.edist (rowop x1 x4 x2 x3 x5) (colop x1 x4 x2 x3 x5) b n)) h i
      = headR x0 x1 x2 x3 x4 x5 x6 x7 x8 x10 x11 b n h i := by
  obtain ⟨G, hG⟩ := feat_real x0 x1 x2 x3 x4 x5 x6 x7 x10 x11 hP
  have hkept := kept_iff x1 x2 x3 x4 x5 G hG b n (hP.apart b n)
  choose s hs using fun m => dot_real x0 x1 x2 x3 x4 x5 x6 x7 x10 x11 hP b h n m
  choose β hβ using fun m => bias_real x0 x1 x2 x3 x4 x5 x6 x7 x10 x11 hP b m h
  have hlog : ∀ m, logit x0 x1 x2 x3 x4 x5 x6 x7 x10 x11 b h n m = ((s m / Real.sqrt 32 + β m : ℝ) : EReal) := fun m => by
    unfold logit
    rw [hs, hβ, root_bits, div_coe _ _ root_pos.ne', EReal.coe_add]
  obtain ⟨mx, hmx⟩ := fold_max_real fun j => s (pos x1 x2 x3 x4 x5 b n j) / Real.sqrt 32 + β (pos x1 x2 x3 x4 x5 b n j)
  have htop : top x0 x1 x2 x3 x4 x5 x6 x7 x10 x11 b h n = (mx : EReal) := by
    unfold top
    rw [neg_inf_bits, funext fun j => hlog (pos x1 x2 x3 x4 x5 b n j), hmx]
    exact max_eq_right bot_le
  have hexpo : ∀ j, expo x0 x1 x2 x3 x4 x5 x6 x7 x10 x11 b h n j
      = ((Real.exp ((s (pos x1 x2 x3 x4 x5 b n j) / Real.sqrt 32 + β (pos x1 x2 x3 x4 x5 b n j)) - mx) : ℝ) : EReal) := fun j => by
    unfold expo
    rw [hlog, htop, ← EReal.coe_sub]
    rfl
  have hwt : ∀ m, wt (fun a => proj x0 x6 (ix3 b n a)) (fun m a => proj x0 x7 (ix3 b m a))
      (fun m h => gbias x1 x4 x2 x3 x5 T B (ix3 b m h))
      (maskOf (Cert.KernelIdeal.Att.edist (rowop x1 x4 x2 x3 x5) (colop x1 x4 x2 x3 x5) b n)) h m
      = Ideal.exp2 (((s m : EReal) + ((β m * Real.sqrt 32 : ℝ) : EReal)
          + maskOf (Cert.KernelIdeal.Att.edist (rowop x1 x4 x2 x3 x5) (colop x1 x4 x2 x3 x5) b n) m) * c2) := fun m => by
    unfold wt
    refine congrArg (fun u => Ideal.exp2 ((u + _) * c2)) (congrArg₂ (fun u v => u + v) (hs m) ?_)
    refine (gbias_at x1 x2 x3 x4 x5 x10 x11 T B hT hB b m h).trans ?_
    rw [hβ, EReal.coe_mul]
  have hsoft := soft_eq (pos x1 x2 x3 x4 x5 b n)
    (fun i j hij => Fin.ext (Fin.mk.inj_iff.mp (rank_inj (negd x1 x2 x3 x4 x5 b n) hij)))
    (wt (fun a => proj x0 x6 (ix3 b n a)) (fun m a => proj x0 x7 (ix3 b m a))
      (fun m h => gbias x1 x4 x2 x3 x5 T B (ix3 b m h))
      (maskOf (Cert.KernelIdeal.Att.edist (rowop x1 x4 x2 x3 x5) (colop x1 x4 x2 x3 x5) b n)) h)
    (fun m => s m / Real.sqrt 32 + β m)
    (fun j => by
      rw [hwt, maskOf, if_pos ((hkept _).mpr ⟨j, rfl⟩), exp2_real])
    (fun m hm => by
      rw [hwt, maskOf, if_neg (fun h => (hkept m).mp h |>.elim fun j hj => hm j hj), exp2_masked])
    mx (fun m => proj x0 x8 (ix3 b m (col h i)))
  unfold headAt
  rw [hsoft]
  unfold headR
  rw [zero_bits, EReal.coe_zero, zero_add]
  refine Finset.sum_congr rfl fun j _ => ?_
  rw [hexpo, Finset.sum_congr rfl fun k _ => hexpo k]
  rfl

include hP hT hB in
/-- THE EQUATION: the kernel's result is the reference's. -/
theorem result_eq : kout (proj x0 x6) (proj x0 x7) (proj x0 x8) (rowop x1 x4 x2 x3 x5) (colop x1 x4 x2 x3 x5)
      (gbias x1 x4 x2 x3 x5 T B) x9
    = Cert.ReferenceIdeal.Read.val_main_v63 (F := Ideal) x0 x1 x2 x3 x4 x5 x6 x7 x8 x9 x10 x11 := by
  funext j
  obtain ⟨b, n, o, rfl⟩ : ∃ (b : Fin 4) (n : Fin 4096) (o : Fin 256), j = ix3 b n o :=
    ⟨j 0, j 1, j 2, by funext a; match a with | ⟨0, _⟩ => rfl | ⟨1, _⟩ => rfl | ⟨2, _⟩ => rfl⟩
  rw [Cert.ReferenceIdeal.Ref.v63_at]
  refine Finset.sum_congr rfl fun c _ => ?_
  exact congrArg (fun u => u * x9 (ix2 c o))
    (head_eq x0 x1 x2 x3 x4 x5 x6 x7 x8 x10 x11 hP T B hT hB b n _ _)

end Cert.Near
-- ==== Proof.Value.lean ====
/-
  The value claim: from memories with equal arguments that satisfy the precondition, the kernel and the reference end with
  the same result.
-/
module

public import proofs.«01_k».proof.Defs
public import proofs.«01_k».proof.Proof.Host
public import proofs.«01_k».proof.Proof.Equation
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem

/-- The kernel's result array, at inputs that satisfy the precondition, is the reference's value of the arguments. -/
theorem kernel_value (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal_distinct_neighbours (hPre_distinct_neighbours := Cert.Pre_distinct_neighbours.Gen.facts) m)
    (c : Dev Cert.KernelIdeal.nD) :
    (Cert.KernelIdeal.Gen.dat1 (Cert.KernelIdeal.Gen.V2 m ρ) c).arrAt 7 Cert.KernelIdeal.cfg1.N
      = Cert.ReferenceIdeal.Read.val_main_v63 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) := by
  obtain ⟨h0, h2, h3, h4, h5, h6⟩ := hpre c
  have hS := Cert.Near.Pre.says_of_flags _ _ _ _ _ _ _ _ _ _ _ _ h0 h2 h3 h4 h5 h6
  refine (Cert.KernelIdeal.Host.result m ρ c).trans ?_
  exact Cert.Near.result_eq _ _ _ _ _ _ _ _ _ _ _ _ hS _ _
    (fun f h hf => Cert.KernelIdeal.Host.table_at m ρ c f h) (fun h => Cert.KernelIdeal.Host.bias_at m ρ c h)

/-- The value claim. -/
theorem value : Cert.algebraic_KernelIdeal_ReferenceIdeal_pre_distinct_neighbours (hKernelIdeal := Cert.KernelIdeal.Gen.facts)
    (hReferenceIdeal := Cert.ReferenceIdeal.Gen.facts) (hPre_distinct_neighbours := Cert.Pre_distinct_neighbours.Gen.facts) := by
  intro m g m' g' hpre hargs
  refine ⟨fun c => (Cert.KernelIdeal.Gen.dat1 (Cert.KernelIdeal.Gen.V2 m g) c).arrAt 7 Cert.KernelIdeal.cfg1.N,
    Cert.KernelIdeal.Run.run m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v63_eq (StableHlo.launchContents m' c))).trans ?_
  refine Eq.trans ?_ (kernel_value m g hpre c).symm
  obtain ⟨e0, e1, e2, e3, e4, e5, e6, e7, e8, e9, e10, e11⟩ := hargs c
  rw [← e0, ← e1, ← e2, ← e3, ← e4, ← e5, ← e6, ← e7, ← e8, ← e9, ← e10, ← e11]

end Cert.Proof
-- ==== Proof.lean ====
/-
  The proof of `Cert.Claim`: the claims about each program alone (Proof/Frames.lean) and the
  value claim (Proof/Value.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_distinct_neighbours
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_distinct_neighbours.Gen.facts,
    frame_kernel, frame_kernelIdeal, frame_kernelIdeal_pre, frame_referenceIdeal, frame_referenceIdeal_pre, preserves_kernel, value⟩

end Cert.Proof

end
